-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_inputs_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S8 : Shape := ⟨1, ![8]⟩
abbrev S_ : Shape := ⟨0, ![]⟩
abbrev S256x1 : Shape := ⟨2, ![256, 1]⟩
abbrev S512x256 : Shape := ⟨2, ![512, 256]⟩
abbrev S256x256 : Shape := ⟨2, ![256, 256]⟩
abbrev S256 : Shape := ⟨1, ![256]⟩
abbrev S1 : Shape := ⟨1, ![1]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_17 : BitVec 32) : Fin 2 → Nat :=
  let c0_18 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v22 : BitVec 32 := Scalar.muli v5 c2048_i32
  let v26 : BitVec 32 := Scalar.addi v22 c0_i32_17
  let v27 : Index := Scalar.indexCast v26
  ![0, v27.toNat]
def k0_off2 (d0 : Dev nD) (c0_i32_17 : BitVec 32) : Fin 2 → Nat :=
  let c0_21 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v19 : BitVec 32 := Scalar.muli v2 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v22 : BitVec 32 := Scalar.muli v5 c2048_i32
  let v26 : BitVec 32 := Scalar.addi v22 c0_i32_17
  let v35 : BitVec 32 := Scalar.addi v19 v26
  let v36 : Index := Scalar.indexCast v35
  ![0, v36.toNat]
def k0_off3 (d0 : Dev nD) (c0_i32_17 : BitVec 32) : Fin 2 → Nat :=
  let c0_i32_27 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v19 : BitVec 32 := Scalar.muli v2 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v22 : BitVec 32 := Scalar.muli v5 c2048_i32
  let v26 : BitVec 32 := Scalar.addi v22 c0_i32_17
  let v39 : BitVec 32 := Scalar.addi v19 v26
  ![0, v39.toNat]
def k0_dev3 (d0 : Dev nD) : Nat :=
  let c0_i32_25 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_24 : BitVec 32 := 2#32
  let v40 : BitVec 32 := Scalar.muli v6 c2_i32_24
  let v41 : BitVec 32 := Scalar.addi c0_i32_25 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v42 : BitVec 32 := Scalar.muli v5 c1_i32_26
  let v43 : BitVec 32 := Scalar.addi v41 v42
  v43.toNat
def k0_dev4 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v64 : BitVec 32 := Scalar.muli v6 c2_i32_35
  let v65 : BitVec 32 := Scalar.addi c0_i32_36 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v66 : BitVec 32 := Scalar.muli v5 c1_i32_37
  let v67 : BitVec 32 := Scalar.addi v65 v66
  v67.toNat
def k0_dev5 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v88 : BitVec 32 := Scalar.muli v6 c2_i32_46
  let v89 : BitVec 32 := Scalar.addi c0_i32_47 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v90 : BitVec 32 := Scalar.muli v5 c1_i32_48
  let v91 : BitVec 32 := Scalar.addi v89 v90
  v91.toNat
def k0_dev6 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v112 : BitVec 32 := Scalar.muli v6 c2_i32_56
  let v113 : BitVec 32 := Scalar.addi c0_i32_57 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v114 : BitVec 32 := Scalar.muli v5 c1_i32_58
  let v115 : BitVec 32 := Scalar.addi v113 v114
  v115.toNat
def k0_dev7 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v136 : BitVec 32 := Scalar.muli v6 c2_i32_66
  let v137 : BitVec 32 := Scalar.addi c0_i32_67 v136
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v138 : BitVec 32 := Scalar.muli v5 c1_i32_68
  let v139 : BitVec 32 := Scalar.addi v137 v138
  v139.toNat
def k0_dev8 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v160 : BitVec 32 := Scalar.muli v6 c2_i32_76
  let v161 : BitVec 32 := Scalar.addi c0_i32_77 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v162 : BitVec 32 := Scalar.muli v5 c1_i32_78
  let v163 : BitVec 32 := Scalar.addi v161 v162
  v163.toNat
def k0_dev9 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v184 : BitVec 32 := Scalar.muli v6 c2_i32_86
  let v185 : BitVec 32 := Scalar.addi c0_i32_87 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v186 : BitVec 32 := Scalar.muli v5 c1_i32_88
  let v187 : BitVec 32 := Scalar.addi v185 v186
  v187.toNat
def k0_dev10 (d0 : Dev nD) : Nat :=
  let c0_i32_97 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_96 : BitVec 32 := 2#32
  let v208 : BitVec 32 := Scalar.muli v6 c2_i32_96
  let v209 : BitVec 32 := Scalar.addi c0_i32_97 v208
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v210 : BitVec 32 := Scalar.muli v5 c1_i32_98
  let v211 : BitVec 32 := Scalar.addi v209 v210
  v211.toNat
def k0_off4 (d0 : Dev nD) (c0_i32_101 : BitVec 32) : Fin 2 → Nat :=
  let c0_102 : Index := 0#32
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c2048_i32_16 : BitVec 32 := 2048#32
  let v24 : BitVec 32 := Scalar.muli v23 c2048_i32_16
  let v218 : BitVec 32 := Scalar.addi v24 c0_i32_101
  let v219 : Index := Scalar.indexCast v218
  ![0, v219.toNat]
def k0_off5 (d0 : Dev nD) (c0_i32_101 : BitVec 32) : Fin 2 → Nat :=
  let c0_105 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v19 : BitVec 32 := Scalar.muli v2 c4096_i32
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c2048_i32_16 : BitVec 32 := 2048#32
  let v24 : BitVec 32 := Scalar.muli v23 c2048_i32_16
  let v218 : BitVec 32 := Scalar.addi v24 c0_i32_101
  let v227 : BitVec 32 := Scalar.addi v19 v218
  let v228 : Index := Scalar.indexCast v227
  ![0, v228.toNat]
def k0_off6 (d0 : Dev nD) (c0_i32_149 : BitVec 32) : Fin 2 → Nat :=
  let c0_i32_155 : BitVec 32 := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_13 v2
  let c4096_i32_14 : BitVec 32 := 4096#32
  let v21 : BitVec 32 := Scalar.muli v20 c4096_i32_14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v22 : BitVec 32 := Scalar.muli v5 c2048_i32
  let v323 : BitVec 32 := Scalar.addi v21 v22
  let v324 : BitVec 32 := Scalar.addi v323 c0_i32_149
  ![0, v324.toNat]
def k0_dev11 (d0 : Dev nD) : Nat :=
  let c0_i32_153 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_152 : BitVec 32 := 2#32
  let v325 : BitVec 32 := Scalar.muli v2 c2_i32_152
  let v326 : BitVec 32 := Scalar.addi c0_i32_153 v325
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_154 : BitVec 32 := 1#32
  let v327 : BitVec 32 := Scalar.muli v7 c1_i32_154
  let v328 : BitVec 32 := Scalar.addi v326 v327
  v328.toNat
def k0_off7 (d0 : Dev nD) (c0_i32_149 : BitVec 32) : Fin 2 → Nat :=
  let c0_157 : Index := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_13 v2
  let c4096_i32_14 : BitVec 32 := 4096#32
  let v21 : BitVec 32 := Scalar.muli v20 c4096_i32_14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v22 : BitVec 32 := Scalar.muli v5 c2048_i32
  let v323 : BitVec 32 := Scalar.addi v21 v22
  let v324 : BitVec 32 := Scalar.addi v323 c0_i32_149
  let v335 : Index := Scalar.indexCast v324
  ![0, v335.toNat]
def k0_dev12 (d0 : Dev nD) : Nat :=
  let c0_i32_170 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_169 : BitVec 32 := 2#32
  let v351 : BitVec 32 := Scalar.muli v2 c2_i32_169
  let v352 : BitVec 32 := Scalar.addi c0_i32_170 v351
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_171 : BitVec 32 := 1#32
  let v353 : BitVec 32 := Scalar.muli v7 c1_i32_171
  let v354 : BitVec 32 := Scalar.addi v352 v353
  v354.toNat
def k0_dev13 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v377 : BitVec 32 := Scalar.muli v2 c2_i32_186
  let v378 : BitVec 32 := Scalar.addi c0_i32_187 v377
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_188 : BitVec 32 := 1#32
  let v379 : BitVec 32 := Scalar.muli v7 c1_i32_188
  let v380 : BitVec 32 := Scalar.addi v378 v379
  v380.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v403 : BitVec 32 := Scalar.muli v2 c2_i32_203
  let v404 : BitVec 32 := Scalar.addi c0_i32_204 v403
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_205 : BitVec 32 := 1#32
  let v405 : BitVec 32 := Scalar.muli v7 c1_i32_205
  let v406 : BitVec 32 := Scalar.addi v404 v405
  v406.toNat
def k0_dev15 (d0 : Dev nD) : Nat :=
  let c0_i32_221 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_220 : BitVec 32 := 2#32
  let v429 : BitVec 32 := Scalar.muli v2 c2_i32_220
  let v430 : BitVec 32 := Scalar.addi c0_i32_221 v429
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_222 : BitVec 32 := 1#32
  let v431 : BitVec 32 := Scalar.muli v7 c1_i32_222
  let v432 : BitVec 32 := Scalar.addi v430 v431
  v432.toNat
def k0_dev16 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v455 : BitVec 32 := Scalar.muli v2 c2_i32_237
  let v456 : BitVec 32 := Scalar.addi c0_i32_238 v455
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_239 : BitVec 32 := 1#32
  let v457 : BitVec 32 := Scalar.muli v7 c1_i32_239
  let v458 : BitVec 32 := Scalar.addi v456 v457
  v458.toNat
def k0_dev17 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v481 : BitVec 32 := Scalar.muli v2 c2_i32_254
  let v482 : BitVec 32 := Scalar.addi c0_i32_255 v481
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_256 : BitVec 32 := 1#32
  let v483 : BitVec 32 := Scalar.muli v7 c1_i32_256
  let v484 : BitVec 32 := Scalar.addi v482 v483
  v484.toNat
def k0_dev18 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v507 : BitVec 32 := Scalar.muli v2 c2_i32_271
  let v508 : BitVec 32 := Scalar.addi c0_i32_272 v507
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_273 : BitVec 32 := 1#32
  let v509 : BitVec 32 := Scalar.muli v7 c1_i32_273
  let v510 : BitVec 32 := Scalar.addi v508 v509
  v510.toNat
def k0_off8 (d0 : Dev nD) (c0_i32_278 : BitVec 32) : Fin 2 → Nat :=
  let c0_i32_284 : BitVec 32 := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_13 v2
  let c4096_i32_14 : BitVec 32 := 4096#32
  let v21 : BitVec 32 := Scalar.muli v20 c4096_i32_14
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c2048_i32_16 : BitVec 32 := 2048#32
  let v24 : BitVec 32 := Scalar.muli v23 c2048_i32_16
  let v523 : BitVec 32 := Scalar.addi v21 v24
  let v524 : BitVec 32 := Scalar.addi v523 c0_i32_278
  ![0, v524.toNat]
def k0_off9 (d0 : Dev nD) (c0_i32_278 : BitVec 32) : Fin 2 → Nat :=
  let c0_286 : Index := 0#32
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_13 v2
  let c4096_i32_14 : BitVec 32 := 4096#32
  let v21 : BitVec 32 := Scalar.muli v20 c4096_i32_14
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c2048_i32_16 : BitVec 32 := 2048#32
  let v24 : BitVec 32 := Scalar.muli v23 c2048_i32_16
  let v523 : BitVec 32 := Scalar.addi v21 v24
  let v524 : BitVec 32 := Scalar.addi v523 c0_i32_278
  let v533 : Index := Scalar.indexCast v524
  ![0, v533.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.SameText.lean ====
/-
# The two printed kernels are one program

The idealization rewrote nothing, so `Kernel` and `KernelIdeal` are the same text over the same signature, for any float
operations. Their tables of bodies are therefore equal, and what `KernelIdeal`'s run proves holds of `Kernel`'s.
-/
module

public import proofs.«01_k».proof.Proof.Gen.Kernel
public import proofs.«01_k».proof.Proof.Gen.KernelIdeal

@[expose] public section

namespace Cert.Proof

open Idealize.ShloMosaic

variable {F : FTy → Type} [FloatOps F]

set_option maxRecDepth 100000 in
/-- The kernels' bodies are equal, -/
theorem bodies_eq : @Cert.Kernel.defs₀ F _ Cert.Kernel.Gen.facts = @Cert.KernelIdeal.defs₀ F _ Cert.KernelIdeal.Gen.facts :=
  congrArg Defs.onTc (funext fun l => funext fun a => by
    match l, a with
    | ⟨0, _⟩, (t, s) => rfl)

/-- and so are the tables with the pipelines around them. -/
theorem tables_eq : @Cert.Kernel.defs F _ Cert.Kernel.Gen.facts = @Cert.KernelIdeal.defs F _ Cert.KernelIdeal.Gen.facts :=
  congrArg (Pipeline.defs Cert.KernelIdeal.pcfgs) bodies_eq

end Cert.Proof

end
-- ==== Proof.KernelIdeal.Blocks.lean ====
/-
# The blocks of the result and what each of them holds

The four devices `c = 2 X + Y` of the 2 × 2 mesh share the columns of the result: quadrant `q` (a device number) is
columns `2048 q … 2048 q + 2047`, cut into eight chunks of 256 columns. Device `c` computes the chunks of quadrants `c`
and `yn c` (the two its half of `W` covers), sends those of quadrant `c` to `xn c`, receives those of quadrant `xn c`
from there, hands these on to `yn c`, and receives those of the last quadrant from `yn c`.

Here: the two neighbours, the chunks as rectangles of the result's staging buffer, and `E c`, the exponentials that the
staging buffer of device `c` holds once everything has landed, chunk by chunk the value ONE device computed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The neighbours -/

/-- The device with the other `x` coordinate: it holds the other half of `W`. -/
def xn (c : Dev nD) : Dev nD := ⟨((c.val % 2) + 2) - 2 * (c.val / 2), by revert c; decide⟩
/-- The device with the other `y` coordinate: it holds the same half of `W`. -/
def yn (c : Dev nD) : Dev nD := ⟨(2 * (c.val / 2) + 1) - (c.val % 2), by revert c; decide⟩

theorem xn_xn (c : Dev nD) : xn (xn c) = c := by revert c; decide
theorem yn_yn (c : Dev nD) : yn (yn c) = c := by revert c; decide
theorem xn_yn (c : Dev nD) : xn (yn c) = yn (xn c) := by revert c; decide
theorem yn_ne (c : Dev nD) : yn c ≠ c := by revert c; decide
theorem xn_ne (c : Dev nD) : xn c ≠ c := by revert c; decide
theorem xn_ne_yn (c : Dev nD) : xn c ≠ yn c := by revert c; decide

/-- The two neighbours as permutations of the devices. -/
def xswap : Dev nD ≃ Dev nD := ⟨xn, xn, xn_xn, xn_xn⟩
def yswap : Dev nD ≃ Dev nD := ⟨yn, yn, yn_yn, yn_yn⟩

/-! ## The chunks as rectangles -/

abbrev xM : Memref sig .tc .vmem S256x512 .f32 := Memref.whole cc0_stg0_0
abbrev wM : Memref sig .tc .vmem S512x4096 .f32 := Memref.whole cc0_stg1_0
abbrev oM : Memref sig .tc .vmem S256x8192 .f32 := Memref.whole cc0_stg2_0

/-- Where chunk `k` of quadrant `q` starts in the result. -/
def colOff (q : Dev nD) (k : Fin 8) : Fin 2 → Nat := ![0, 2048 * q.val + 256 * k.val]
/-- Where its columns start in the half of `W` that covers quadrant `q`. -/
def wOff (q : Dev nD) (k : Fin 8) : Fin 2 → Nat := ![0, 2048 * (q.val % 2) + 256 * k.val]

theorem colOff_inb (q : Dev nD) (k : Fin 8) : ∀ a, colOff q k a + S256x256.size a ≤ S256x8192.size a := by
  revert q k; decide
theorem wOff_inb (q : Dev nD) (k : Fin 8) : ∀ a, wOff q k a + S512x256.size a ≤ S512x4096.size a := by
  revert q k; decide

abbrev oRect (q : Dev nD) (k : Fin 8) : Rect S256x8192 := Rect.unit (s := S256x8192) (colOff q k) S256x256.size (colOff_inb q k)
abbrev wRect (q : Dev nD) (k : Fin 8) : Rect S512x4096 := Rect.unit (s := S512x4096) (wOff q k) S512x256.size (wOff_inb q k)

/-- Chunk `k` of quadrant `q` as a view of the result's staging buffer. -/
abbrev oV (q : Dev nD) (k : Fin 8) : Memref sig .tc .vmem S256x256 .f32 := oM.slice (oRect q k) (fun _ => rfl)

/-- The elements of the staging buffer in chunk `k` of quadrant `q`. -/
abbrev oSet (q : Dev nD) (k : Fin 8) : Finset (cc0_stg2_0 : Ref sig .tc).ty.Idx := (oV q k).view.set

abbrev Out (F : FTy → Type) [FloatOps F] : Type := (cc0_stg2_0 : Ref sig .tc).ty.Contents (Elt F)

/-- The quadrant, the chunk and the place in the chunk of an element of the result. -/
def qOf (i : S256x8192.Idx) : Dev nD := ⟨(i 1).val / 2048, by have : (i 1).val < 8192 := (i 1).isLt; show _ < 4; omega⟩
def kOf (i : S256x8192.Idx) : Fin 8 := ⟨(i 1).val % 2048 / 256, by omega⟩
def iOf (i : S256x8192.Idx) : S256x256.Idx :=
  Shape.pair (d := ![256, 256]) ⟨(i 0).val, (i 0).isLt⟩ ⟨(i 1).val % 256, Nat.mod_lt _ (by decide)⟩

theorem emb_val (q : Dev nD) (k : Fin 8) (j : S256x256.Idx) (a : Fin 2) :
    (((oV q k).view.emb j a : Fin _) : Nat) = colOff q k a + (j a : Nat) := by
  show colOff q k a + 1 * (j a : Nat) = _; omega

theorem qOf_emb (q : Dev nD) (k : Fin 8) (j : S256x256.Idx) : qOf ((oV q k).view.emb j) = q := by
  apply Fin.ext
  have h : (((oV q k).view.emb j 1 : Fin _) : Nat) = 2048 * q.val + 256 * k.val + (j 1 : Nat) := emb_val q k j 1
  have hj : (j 1 : Nat) < 256 := (j 1).isLt
  have hk := k.isLt
  show (((oV q k).view.emb j 1 : Fin _) : Nat) / 2048 = _
  rw [h]; omega
theorem kOf_emb (q : Dev nD) (k : Fin 8) (j : S256x256.Idx) : kOf ((oV q k).view.emb j) = k := by
  apply Fin.ext
  have h : (((oV q k).view.emb j 1 : Fin _) : Nat) = 2048 * q.val + 256 * k.val + (j 1 : Nat) := emb_val q k j 1
  have hj : (j 1 : Nat) < 256 := (j 1).isLt
  have hk := k.isLt
  show (((oV q k).view.emb j 1 : Fin _) : Nat) % 2048 / 256 = _
  rw [h]; omega
theorem iOf_emb (q : Dev nD) (k : Fin 8) (j : S256x256.Idx) : iOf ((oV q k).view.emb j) = j := by
  have h1 : (((oV q k).view.emb j 1 : Fin _) : Nat) = 2048 * q.val + 256 * k.val + (j 1 : Nat) := emb_val q k j 1
  have h0 : (((oV q k).view.emb j 0 : Fin _) : Nat) = 0 + (j 0 : Nat) := emb_val q k j 0
  have hj : (j 1 : Nat) < 256 := (j 1).isLt
  refine (Shape.pair_eta (d := ![256, 256]) j).symm ▸ ?_
  unfold iOf
  congr 1
  · apply Fin.ext; show (((oV q k).view.emb j 0 : Fin _) : Nat) = _; rw [h0, Nat.zero_add]
  · apply Fin.ext; show (((oV q k).view.emb j 1 : Fin _) : Nat) % 256 = _; rw [h1]; omega

/-- Every element lies in the chunk its column names. -/
theorem emb_of (i : S256x8192.Idx) : (oV (qOf i) (kOf i)).view.emb (iOf i) = i := by
  funext a
  apply Fin.ext
  rw [emb_val]
  have hi : (i 1).val < 8192 := (i 1).isLt
  fin_cases a
  · show 0 + (i 0).val = (i 0).val; omega
  · show 2048 * ((i 1).val / 2048) + 256 * ((i 1).val % 2048 / 256) + (i 1).val % 256 = (i 1).val; omega

theorem mem_oSet (q : Dev nD) (k : Fin 8) (i : S256x8192.Idx) : i ∈ oSet q k ↔ qOf i = q ∧ kOf i = k := by
  constructor
  · intro h
    obtain ⟨j, -, rfl⟩ := Finset.mem_map.mp h
    exact ⟨qOf_emb q k j, kOf_emb q k j⟩
  · rintro ⟨rfl, rfl⟩
    have := (oV (qOf i) (kOf i)).view.emb_mem_set (iOf i)
    rwa [emb_of] at this

theorem oSet_disjoint {p p' : Dev nD × Fin 8} (h : p ≠ p') : Disjoint (oSet p.1 p.2) (oSet p'.1 p'.2) := by
  rw [Finset.disjoint_left]
  intro i h₁ h₂
  obtain ⟨a, b⟩ := (mem_oSet _ _ i).mp h₁
  obtain ⟨a', b'⟩ := (mem_oSet _ _ i).mp h₂
  exact h (Prod.ext (a.symm.trans a') (b.symm.trans b'))

theorem oSet_cover : (Finset.univ : Finset (Dev nD × Fin 8)).biUnion (fun p => oSet p.1 p.2) = Finset.univ := by
  ext i
  simp only [Finset.mem_biUnion, Finset.mem_univ, true_and, iff_true]
  exact ⟨(qOf i, kOf i), (mem_oSet _ _ i).mpr ⟨rfl, rfl⟩⟩

/-! ## Contents -/

variable (m : (ℓ : Loc nD τ sig) → Buf (Elt F) ℓ) (ρ : Dev nD → PrngReg)

def s₀ : MemSt nD τ sig (Elt F) := ⟨m, fun _ => 0, ρ⟩

/-- The copy of `x` that device `c` stages, and its half of `W`. -/
def xs (c : Dev nD) : (cc0_stg0_0 : Ref sig .tc).ty.Contents (Elt F) :=
  (win0_0.blk (0 : Fin 1)).view.read (Elt F) ((s₀ m ρ).mem ((c : Thread nD τ).loc main_arg0))
def ws (c : Dev nD) : (cc0_stg1_0 : Ref sig .tc).ty.Contents (Elt F) :=
  (win0_1.blk (0 : Fin 1)).view.read (Elt F) ((s₀ m ρ).mem ((c : Thread nD τ).loc main_arg1))

/-- `x` as the kernel loads it, and the 256 columns of `W` on device `c` that chunk `k` of quadrant `q` needs. -/
def xv (c : Dev nD) : Vec F S256x512 .f32 :=
  (xM : Memref sig .tc .vmem S256x512 .f32).view.readAt (Elt F) (Rect.unit (s := S256x512) ![0, 0] S256x512.size inb_S256x512_S256x512_0_0).toLoadRect (xs m ρ c)
def wch (c q : Dev nD) (k : Fin 8) : Vec F S512x256 .f32 :=
  (wM : Memref sig .tc .vmem S512x4096 .f32).view.readAt (Elt F) (wRect q k).toLoadRect (ws m ρ c)

/-- Chunk `k` of quadrant `q` as device `c` computes it: the exponentials of `x` times the columns of `W`. -/
def chunk (c q : Dev nD) (k : Fin 8) : FVec F S256x256 .f32 := k0_pay4 (k0_pay2 (xv m ρ c)) (wch m ρ c q k)

/-- Which device computed the chunks of quadrant `q` that end on device `c`: its own two quadrants `c` itself, the other
    two the device the quadrant is named after. -/
def src (c q : Dev nD) : Dev nD := if q = yn c then c else q

/-- What the result's staging buffer on device `c` holds once every chunk is there. -/
def E (c : Dev nD) : Out F := fun i => chunk m ρ (src c (qOf i)) (qOf i) (kOf i) (iOf i)

theorem read_E (c q : Dev nD) (k : Fin 8) : (oV q k).view.read (Elt F) (E m ρ c) = chunk m ρ (src c q) q k := by
  funext j
  show E m ρ c ((oV q k).view.emb j) = _
  unfold E
  rw [qOf_emb, kOf_emb, iOf_emb]

/-- A buffer written with the chunk agrees with `E` on the chunk. -/
theorem write_E (c q : Dev nD) (k : Fin 8) (f : Out F) (w : FVec F S256x256 .f32) (hw : w = chunk m ρ (src c q) q k) :
    ∀ i ∈ oSet q k, ((oV q k).view.write (Elt F) f w Finset.univ) i = E m ρ c i := by
  intro i hi
  obtain ⟨j, -, rfl⟩ := Finset.mem_map.mp hi
  rw [View.write_emb_of_mem _ _ (Finset.mem_univ j), hw, ← read_E]
  rfl

end Cert.KernelIdealProof

end
-- ==== Proof.KernelIdeal.Sched.lean ====
/-
# The protocol

Every device has 33 semaphore cells: the barrier cell, and four families of eight DMA cells — family 0 the sends of the
device's own quadrant to `xn c`, family 1 the chunks that land from there, family 2 the sends that hand those on to
`yn c`, family 3 the chunks that land from `yn c`. Each cell is used for one round only.

* The barrier cell of `c` takes two units. One is `xn c`'s and hands over the eight chunks of quadrant `c` of `xn c`'s own
  staging buffer (where `c`'s sends will land), the other is `yn c`'s and hands over the eight chunks of quadrant `xn c`
  of `yn c`'s staging buffer (where `c`'s forwards will land). So when the wait for two returns, `c` owns all the places
  that it will write on its neighbours.
* A send cell hands back the part of the staging buffer that was lent to the copy; for a forward that is half a share,
  because the kernel loads the chunk while the copy reads it.
* A landing cell hands over the chunk with what arrived in it.

The cells' levels: barrier 1, first landing 2, second landing 3, everything else 0. A wait is allowed below all that the
waiter still owes, and each device owes its sends until it has made them.
-/
module

public import proofs.«01_k».proof.Proof.KernelIdeal.Blocks

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's, and the rounds of this kernel's cells. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The DMA semaphore of family `j` for chunk `k`. -/
def dS (j : Fin 4) (k : Fin 8) : DmaSem sig := ⟨3 + 8 * j.val + k.val, by show _ < 35; omega⟩
abbrev barS : Sem sig := (SemArray.scalar (sig.barrier 0 rfl) : Sems sig S_).sem

/-- The family and the chunk that a DMA semaphore belongs to. -/
def jOf (s : DmaSem sig) : Fin 4 := ⟨(s.val - 3) / 8 % 4, Nat.mod_lt _ (by decide)⟩
def kOfS (s : DmaSem sig) : Fin 8 := ⟨(s.val - 3) % 8, Nat.mod_lt _ (by decide)⟩

theorem jOf_dS (j : Fin 4) (k : Fin 8) : jOf (dS j k) = j := by revert j k; decide
theorem kOfS_dS (j : Fin 4) (k : Fin 8) : kOfS (dS j k) = k := by revert j k; decide
theorem three_le_dS (j : Fin 4) (k : Fin 8) : 3 ≤ (dS j k).val := by revert j k; decide
theorem dS_inj {j j' : Fin 4} {k k' : Fin 8} (h : dS j k = dS j' k') : j = j' ∧ k = k' :=
  ⟨by rw [← jOf_dS j k, h, jOf_dS], by rw [← kOfS_dS j k, h, kOfS_dS]⟩

abbrev barCell (c : Dev nD) : GSem nD τ sig := ((c : Thread nD τ), .reg barS)
abbrev dCell (c : Dev nD) (j : Fin 4) (k : Fin 8) : GSem nD τ sig := ((c : Thread nD τ), .dma (dS j k))

/-- The kernel's own semaphores, and with the barrier all that it uses. -/
abbrev osem : Fin 4 × Fin 8 → SemLoc sig := fun jk => .dma (dS jk.1 jk.2)
def csem : Option (Fin 4 × Fin 8) → SemLoc sig := fun | none => .reg barS | some jk => osem jk
abbrev kcell (ck : Dev nD × Option (Fin 4 × Fin 8)) : GSem nD τ sig := ((ck.1 : Thread nD τ), csem ck.2)

theorem csem_injective : Function.Injective csem := by
  rintro (_ | ⟨j, k⟩) (_ | ⟨j', k'⟩) h
  · rfl
  · cases h
  · cases h
  · have h' : dS j k = dS j' k' := SemLoc.dma.inj h
    rw [(dS_inj h').1, (dS_inj h').2]

/-- The units one chunk's copy credits. -/
abbrev N : ℕ := (oV 0 0).view.dmaCredit
theorem N_pos : 0 < N := View.dmaCredit_pos _ (by decide)
theorem credit_eq (q : Dev nD) (k : Fin 8) : (oV q k).view.dmaCredit = N := rfl

/-- The device in the opposite corner of the mesh. -/
abbrev dg (c : Dev nD) : Dev nD := xn (yn c)

/-! ## What the cells hand over -/

variable (m : (ℓ : Loc nD τ sig) → Buf (Elt F) ℓ) (ρ : Dev nD → PrngReg)

/-- Chunk `k` of quadrant `q` of `c`'s staging buffer, at its final contents, a share `sh` of it. -/
def outE (c q : Dev nD) (k : Fin 8) (sh : PosShare TreeShare) : sProp 𝕄 :=
  (oV q k).view.loc (c : Thread nD τ) ↦[oSet q k]{sh} (E m ρ c : Buf (Elt F) ((oV q k).view.loc (c : Thread nD τ)))
/-- The same chunk with any contents. -/
def outAny (c q : Dev nD) (k : Fin 8) : sProp 𝕄 :=
  iprop(∃ f : Buf (Elt F) ((oV q k).view.loc (c : Thread nD τ)), (oV q k).view.loc (c : Thread nD τ) ↦[oSet q k]{fullShare} f)

instance outE_storable (c q : Dev nD) (k : Fin 8) (sh : PosShare TreeShare) : BI.Storable (upEmb : UEmb _ 𝕄) (outE (F := F) m ρ c q k sh) := by
  unfold outE; infer_instance
omit [FloatOps F] in
instance outAny_storable (c q : Dev nD) (k : Fin 8) : BI.Storable (upEmb : UEmb _ 𝕄) (outAny (F := F) c q k) := by
  unfold outAny; infer_instance

/-- The quadrant of the chunk that a cell of family `j` hands to `c`, and the share. -/
def quad (c : Dev nD) : Fin 4 → Dev nD
  | 0 => c | 1 => xn c | 2 => xn c | 3 => dg c
def shr : Fin 4 → PosShare TreeShare
  | 0 => fullShare | 1 => fullShare | 2 => fullShare.left | 3 => fullShare

def dmaPay (c : Dev nD) (j : Fin 4) (k : Fin 8) : sProp 𝕄 := outE m ρ c (quad c j) k (shr j)
/-- What `xn c` (duty `false`) and `yn c` (duty `true`) hand to `c` at the barrier. -/
def barPay (c : Dev nD) (d : Bool) : sProp 𝕄 :=
  if d then bigSep Finset.univ fun k : Fin 8 => outAny (yn c) (xn c) k else bigSep Finset.univ fun k : Fin 8 => outAny (xn c) c k

instance dmaPay_storable (c : Dev nD) (j : Fin 4) (k : Fin 8) : BI.Storable (upEmb : UEmb _ 𝕄) (dmaPay (F := F) m ρ c j k) := by
  unfold dmaPay; infer_instance
omit [FloatOps F] in
instance barPay_storable (c : Dev nD) (d : Bool) : BI.Storable (upEmb : UEmb _ 𝕄) (barPay (F := F) c d) := by
  unfold barPay; split <;> infer_instance

/-! ## The schedule -/

def dutiesOf : SemLoc sig → Finset Bool
  | .reg _ => Finset.univ
  | .dma s => if 3 ≤ s.val then {false} else ∅
def amountOf : SemLoc sig → ℕ
  | .reg _ => 1
  | .dma _ => N
def payOf (c : Dev nD) (d : Bool) : SemLoc sig → sProp 𝕄
  | .reg _ => barPay c d
  | .dma s => dmaPay m ρ c (jOf s) (kOfS s)

def sched : Rounds.Schedule (GSem nD τ sig) Bool 𝕄 where
  duties g r := if r = 0 ∧ g.1.2 = .tc then dutiesOf g.2 else ∅
  unitless _ := False
  amount g _ _ := amountOf g.2
  payload g _ d := payOf m ρ g.1.1 d g.2
  amount_pos g _ _ _ := by
    rcases g with ⟨_, _ | _⟩
    · exact Nat.one_pos
    · exact N_pos

instance sched_payload_storable (g : GSem nD τ sig) (r : ℕ) (d : Bool) :
    BI.Storable (upEmb : UEmb _ 𝕄) ((sched (F := F) m ρ).payload g r d) := by
  rcases g with ⟨t, _ | s⟩
  · exact barPay_storable t.1 d
  · exact dmaPay_storable m ρ t.1 (jOf s) (kOfS s)

section Facts
variable (c : Dev nD) (j : Fin 4) (k : Fin 8)

theorem duties_bar : (sched (F := F) m ρ).duties (barCell c) 0 = Finset.univ := by
  show (if 0 = 0 ∧ (barCell c).1.2 = .tc then dutiesOf (.reg barS) else ∅) = _
  rw [if_pos ⟨rfl, rfl⟩]; rfl
theorem duties_dma : (sched (F := F) m ρ).duties (dCell c j k) 0 = {false} := by
  show (if 0 = 0 ∧ (dCell c j k).1.2 = .tc then (if 3 ≤ (dS j k).val then {false} else ∅) else ∅) = _
  rw [if_pos ⟨rfl, rfl⟩, if_pos (three_le_dS j k)]
theorem duties_later (g : GSem nD τ sig) : ∀ r, 1 ≤ r → (sched (F := F) m ρ).duties g r = ∅ :=
  fun r hr => if_neg fun h => by have := h.1; omega

theorem amount_bar (d : Bool) : (sched (F := F) m ρ).amount (barCell c) 0 d = 1 := rfl
theorem amount_dma (d : Bool) : (sched (F := F) m ρ).amount (dCell c j k) 0 d = N := rfl

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma : (sched (F := F) m ρ).expect (dCell c j k) 0 = N := by
  unfold Schedule.expect Schedule.amountOf; rw [duties_dma, Finset.sum_singleton, amount_dma]

theorem payload_bar (d : Bool) : (sched (F := F) m ρ).payload (barCell c) 0 d = barPay c d := rfl
theorem payload_dma (d : Bool) : (sched (F := F) m ρ).payload (dCell c j k) 0 d = dmaPay m ρ c j k := by
  show dmaPay m ρ c (jOf (dS j k)) (kOfS (dS j k)) = _
  rw [jOf_dS, kOfS_dS]

theorem rest_bar : bigSep ((sched (F := F) m ρ).duties (barCell c) 0 \ ∅) (fun d => (sched (F := F) m ρ).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_dma : bigSep ((sched (F := F) m ρ).duties (dCell c j k) 0 \ ∅) (fun d => (sched (F := F) m ρ).payload (dCell c j k) 0 d)
    = dmaPay m ρ c j k := by
  rw [Finset.sdiff_empty, duties_dma, bigSep_singleton, payload_dma]

end Facts

/-! ## What lands -/

theorem src_self (c : Dev nD) : src c c = c := if_neg (yn_ne c).symm
theorem src_xn (c : Dev nD) : src c (xn c) = xn c := if_neg (xn_ne_yn c)
theorem src_yn (c : Dev nD) : src c (yn c) = c := if_pos rfl
theorem src_dg (c : Dev nD) : src c (dg c) = dg c := if_neg (by revert c; decide)
theorem src_xn_self (c : Dev nD) : src (xn c) c = c := if_neg (by revert c; decide)
theorem src_yn_xn (c : Dev nD) : src (yn c) (xn c) = xn c := if_neg (by revert c; decide)

/-- A chunk that arrives on another device, where the same device computed it, is what that device's `E` says. -/
theorem landing (c n q : Dev nD) (k : Fin 8) (hs : src n q = src c q) (f : Out F) :
    ((oV q k).view.loc (n : Thread nD τ) ↦[oSet q k]{fullShare}
        ((oV q k).view.write (Elt F) f ((oV q k).view.read (Elt F) (E m ρ c)) Finset.univ : Buf (Elt F) ((oV q k).view.loc (n : Thread nD τ))) : sProp 𝕄)
      = outE m ρ n q k fullShare := by
  unfold outE
  exact pointsTo_congr fun i hi => write_E m ρ n q k f _ (by rw [read_E, hs]) i hi

/-- A chunk stored by the device itself. -/
theorem stored (c q : Dev nD) (k : Fin 8) (f : Out F) (w : FVec F S256x256 .f32) (hw : w = chunk m ρ (src c q) q k) :
    ((oV q k).view.loc (c : Thread nD τ) ↦[oSet q k]{fullShare}
        ((oV q k).view.write (Elt F) f w Finset.univ : Buf (Elt F) ((oV q k).view.loc (c : Thread nD τ))) : sProp 𝕄)
      = outE m ρ c q k fullShare := by
  unfold outE
  exact pointsTo_congr fun i hi => write_E m ρ c q k f w hw i hi

/-- A chunk's share cut in two. -/
theorem outE_share (c q : Dev nD) (k : Fin 8) :
    (outE m ρ c q k fullShare : sProp 𝕄) ⊣⊢ iprop(outE m ρ c q k fullShare.left ∗ outE m ρ c q k fullShare.right) := by
  unfold outE; exact pointsTo_share (PosShare.mem_left_op_right fullShare)

theorem outE_any (c q : Dev nD) (k : Fin 8) : (outE m ρ c q k fullShare : sProp 𝕄) ⊢ outAny c q k := by
  unfold outE outAny; iintro H; iexists _; iexact H

/-! ## What each device owes, and the levels -/

/-- The landings on `n` of family `j` from chunk `i` on. -/
def owedFrom (n : Dev nD) (j : Fin 4) (i : ℕ) : CellTallies nD τ sig Unit :=
  ∑ k ∈ Finset.univ.filter fun k : Fin 8 => i ≤ k.val, tallyAt (dCell n j k) () N

theorem owedFrom_step (n : Dev nD) (j : Fin 4) (k : Fin 8) :
    owedFrom n j k.val = owedFrom n j (k.val + 1) + tallyAt (dCell n j k) () N := by
  unfold owedFrom
  have h : (Finset.univ.filter fun i : Fin 8 => k.val ≤ i.val) = insert k (Finset.univ.filter fun i : Fin 8 => k.val + 1 ≤ i.val) := by
    ext i
    simp only [Finset.mem_filter, Finset.mem_univ, true_and, Finset.mem_insert]
    constructor
    · intro hi
      rcases Nat.eq_or_lt_of_le hi with h | h
      · exact Or.inl (Fin.ext h.symm)
      · exact Or.inr h
    · rintro (rfl | hi)
      · exact le_rfl
      · omega
  rw [h, Finset.sum_insert (by simp), add_comm]

theorem owedFrom_end (n : Dev nD) (j : Fin 4) : owedFrom n j 8 = 0 := by
  unfold owedFrom
  rw [Finset.filter_false_of_mem fun k _ => by have := k.isLt; omega, Finset.sum_empty]

theorem owedFrom_pos {n : Dev nD} {j : Fin 4} {i : ℕ} {g : GSem nD τ sig} {u : Unit} (h : 0 < owedFrom n j i g u) : ∃ k, g = dCell n j k := by
  by_contra hn
  push Not at hn
  refine absurd h (Nat.not_lt.mpr (Nat.le_of_eq ?_))
  unfold owedFrom
  rw [Finset.sum_apply, Finsupp.finset_sum_apply]
  refine Finset.sum_eq_zero fun k _ => ?_
  rw [tallyAt_ne_cell (hn k), Finsupp.zero_apply]

/-- What device `c` still owes after `s` sends and `f` forwards. -/
def Ow (c : Dev nD) (s f : ℕ) : CellTallies nD τ sig Unit := owedFrom (yn c) 3 f + owedFrom (xn c) 1 s
/-- What it owes at launch: a unit to each neighbour's barrier besides. -/
def O₁ (c : Dev nD) : CellTallies nD τ sig Unit := Ow c 0 0 + tallyAt (barCell (yn c)) () 1
def O₀ (c : Dev nD) : CellTallies nD τ sig Unit := O₁ c + tallyAt (barCell (xn c)) () 1

theorem Ow_send (c : Dev nD) (k : Fin 8) (f : ℕ) : Ow c k.val f = Ow c (k.val + 1) f + tallyAt (dCell (xn c) 1 k) () N := by
  unfold Ow; rw [owedFrom_step, add_assoc]
theorem Ow_fwd (c : Dev nD) (k : Fin 8) : Ow c 8 k.val = Ow c 8 (k.val + 1) + tallyAt (dCell (yn c) 3 k) () N := by
  unfold Ow; rw [owedFrom_end, add_zero, add_zero, owedFrom_step]
theorem Ow_end (c : Dev nD) : Ow c 8 8 = 0 := by unfold Ow; rw [owedFrom_end, owedFrom_end, add_zero]

def L (g : GSem nD τ sig) : Finset Unit := if g.1.2 = .tc then {()} else ∅
def famLv : Fin 4 → ℕ
  | 0 => 0 | 1 => 2 | 2 => 0 | 3 => 3
def lvOf : SemLoc sig → ℕ
  | .reg _ => 1
  | .dma s => if 3 ≤ s.val then famLv (jOf s) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) (j : Fin 4) (k : Fin 8) (u : Unit) : lv (dCell c j k) u = famLv j := by
  show (if 3 ≤ (dS j k).val then famLv (jOf (dS j k)) else 0) = _
  rw [if_pos (three_le_dS j k), jOf_dS]

theorem Ow_pos {c : Dev nD} {s f : ℕ} {g : GSem nD τ sig} {u : Unit} (h : 0 < Ow c s f g u) :
    (∃ k, g = dCell (yn c) 3 k) ∨ (∃ k, g = dCell (xn c) 1 k) := by
  unfold Ow at h
  rw [Pi.add_apply, Finsupp.add_apply] at h
  rcases Nat.eq_zero_or_pos (owedFrom (yn c) 3 f g u) with h0 | h0
  · rw [h0, Nat.zero_add] at h; exact Or.inr (owedFrom_pos h)
  · exact Or.inl (owedFrom_pos h0)

theorem O₀_pos {c : Dev nD} {g : GSem nD τ sig} {u : Unit} (h : 0 < O₀ c g u) :
    ((∃ k, g = dCell (yn c) 3 k) ∨ (∃ k, g = dCell (xn c) 1 k)) ∨ ∃ n : Dev nD, g = barCell n := by
  unfold O₀ O₁ at h
  rw [Pi.add_apply, Finsupp.add_apply, Pi.add_apply, Finsupp.add_apply, tallyAt_apply, tallyAt_apply] at h
  by_contra hn
  rw [not_or] at hn
  have h1 : Ow c 0 0 g u = 0 := by
    rcases Nat.eq_zero_or_pos (Ow c 0 0 g u) with h0 | h0
    · exact h0
    · exact absurd (Ow_pos h0) hn.1
  rw [h1, if_neg (fun h' => hn.2 ⟨_, h'.1⟩), if_neg (fun h' => hn.2 ⟨_, h'.1⟩)] at h
  exact Nat.lt_irrefl 0 h

/-- A wait on `sm` is allowed when everything owed lies on TensorCore cells above its level. -/
theorem mayWait_of (c : Dev nD) (sm : SemLoc sig) (O : CellTallies nD τ sig Unit)
    (hO : ∀ g u, 0 < O g u → (∃ n s, g = ((Dev.tc n : Thread nD τ), s)) ∧ lvOf sm < lv g u) :
    (levAts L lv : sProp 𝕄) ⊢ MayWait (c : Thread nD τ) sm () O :=
  MayOwe.of_cut (L := L) (lev := lv) (lvOf sm)
    (fun p hp => by rw [Finset.mem_singleton.mp hp, L_tc]; exact Finset.mem_singleton_self _)
    (fun g u hg => by obtain ⟨⟨n, s, rfl⟩, -⟩ := hO g u hg; rw [L_tc]; exact Finset.mem_singleton_self _)
    (fun p hp => by rw [Finset.mem_singleton.mp hp]; exact le_rfl)
    (fun g u hg => (hO g u hg).2)

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    have h0 : lvOf (.dma q : SemLoc sig) = 0 := if_neg (by omega)
    rw [h0]
    rcases O₀_pos hg with (⟨k, rfl⟩ | ⟨k, rfl⟩) | ⟨n, rfl⟩
    · exact ⟨⟨_, _, rfl⟩, by rw [lv_dma]; decide⟩
    · exact ⟨⟨_, _, rfl⟩, by rw [lv_dma]; decide⟩
    · exact ⟨⟨_, _, rfl⟩, Nat.one_pos⟩
  · rw [MayWait_zero]; iintro -; iempintro

/-- At the barrier a device owes landings only. -/
theorem mayWait_bar (c : Dev nD) (s f : ℕ) : (levAts L lv : sProp 𝕄) ⊢ MayWait (c : Thread nD τ) (.reg barS) () (Ow c s f) := by
  refine mayWait_of c _ _ fun g u hg => ?_
  have h1 : lvOf (.reg barS : SemLoc sig) = 1 := rfl
  rw [h1]
  rcases Ow_pos hg with ⟨k, rfl⟩ | ⟨k, rfl⟩
  · exact ⟨⟨_, _, rfl⟩, by rw [lv_dma]; decide⟩
  · exact ⟨⟨_, _, rfl⟩, by rw [lv_dma]; decide⟩

/-- When all sends are made a device owes forwards only: it may wait for any landing of the first kind. -/
theorem mayWait_xrecv (c : Dev nD) (k : Fin 8) (f : ℕ) : (levAts L lv : sProp 𝕄) ⊢ MayWait (c : Thread nD τ) (.dma (dS 1 k)) () (Ow c 8 f) := by
  refine mayWait_of c _ _ fun g u hg => ?_
  have h1 : lvOf (.dma (dS 1 k) : SemLoc sig) = 2 := lv_dma c 1 k ()
  rw [h1]
  have hg' : 0 < owedFrom (yn c) 3 f g u := by
    unfold Ow at hg; rwa [owedFrom_end, add_zero] at hg
  obtain ⟨i, rfl⟩ := owedFrom_pos hg'
  exact ⟨⟨_, _, rfl⟩, by rw [lv_dma]; decide⟩

/-- When nothing is owed any wait is allowed. -/
theorem mayWait_end (c : Dev nD) (sm : SemLoc sig) : (levAts L lv : sProp 𝕄) ⊢ MayWait (c : Thread nD τ) sm () (Ow c 8 8) := by
  rw [Ow_end, MayWait_zero]; iintro -; iempintro

end Cert.KernelIdealProof

end
-- ==== Proof.KernelIdeal.Ops.lean ====
/-
# The kernel's operations on the protocol's resources

One lemma per kind of operation of the body, each in terms of a chunk `(q, k)` of the staging buffer: a load of a chunk, a
store to it, the send of a chunk to a neighbour, and the wait on a DMA cell, which takes the chunk that the cell hands
over.
-/
module

public import proofs.«01_k».proof.Proof.KernelIdeal.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## The records every device holds -/

/-- The invariants of all cells, under the names `K` they were allocated at, and that each cell has reached round 0. -/
def records (K : Dev nD × Option (Fin 4 × Fin 8) → ℕ) : sProp 𝕄 :=
  iprop((bigSep Finset.univ fun ck : Dev nD × Option (Fin 4 × Fin 8) => cellInv ER (sched m ρ) (K ck) (kcell ck))
    ∗ bigSep Finset.univ fun ck : Dev nD × Option (Fin 4 × Fin 8) => reached ER (kcell ck) 0)

instance records_persistent (K : Dev nD × Option (Fin 4 × Fin 8) → ℕ) : BI.Persistent (records m ρ K) := by
  unfold records; infer_instance

variable (K : Dev nD × Option (Fin 4 × Fin 8) → ℕ)

theorem inv_at (ck : Dev nD × Option (Fin 4 × Fin 8)) : records m ρ K ⊢ cellInv ER (sched m ρ) (K ck) (kcell ck) := by
  unfold records; exact sep_elim_left.trans (bigSep_elim (Finset.mem_univ ck))
theorem reached_at (ck : Dev nD × Option (Fin 4 × Fin 8)) : records m ρ K ⊢ reached ER (kcell ck) 0 := by
  unfold records; exact sep_elim_right.trans (bigSep_elim (Finset.mem_univ ck))

theorem inv_dma (c : Dev nD) (j : Fin 4) (k : Fin 8) : records m ρ K ⊢ cellInv ER (sched m ρ) (K (c, some (j, k))) (dCell c j k) :=
  inv_at m ρ K (c, some (j, k))
theorem inv_bar (c : Dev nD) : records m ρ K ⊢ cellInv ER (sched m ρ) (K (c, none)) (barCell c) := inv_at m ρ K (c, none)
theorem reached_dma (c : Dev nD) (j : Fin 4) (k : Fin 8) : records m ρ K ⊢ reached ER (dCell c j k) 0 := reached_at m ρ K (c, some (j, k))
theorem reached_bar (c : Dev nD) : records m ρ K ⊢ reached ER (barCell c) 0 := reached_at m ρ K (c, none)

/-! ## What a device owes, whatever it has waited for -/

abbrev owesAny (c : Dev nD) (O : CellTallies nD τ sig Unit) : sProp 𝕄 := iprop(∃ W : Waits sig Unit, owes (c : Thread nD τ) O W)

/-! ## A wait on a DMA cell -/

theorem wait_op (c : Dev nD) (j : Fin 4) (k : Fin 8) (O : CellTallies nD τ sig Unit)
    {s : DmaSem sig} (hs : s = dS j k) {off off' : Fin 2 → Nat} {inb : ∀ a, off a + S256x256.size a ≤ S256x8192.size a}
    {inb' : ∀ a, off' a + S256x256.size a ≤ S256x8192.size a}
    {hsrc : (oM.slice (Rect.unit (s := S256x8192) off' S256x256.size inb') (fun _ => rfl)).view.WordExact}
    {hdst : (oM.slice (Rect.unit (s := S256x8192) off S256x256.size inb) (fun _ => rfl)).view.WordExact}
    (hmay : (levAts L lv : sProp 𝕄) ⊢ MayWait (c : Thread nD τ) (.dma (dS j k)) () O)
    {α : Type} {Q : α → sProp 𝕄} {kk : PUnit → Prog (TpuEff nD τ sig (Elt F) Λ₀ .tc) α} :
    iprop(records m ρ K ∗ levAts L lv ∗ cred (tallyAt (dCell c j k) () N) ∗ atPos ER (dCell c j k) 0 ∅ 0 ∗ owesAny c O)
      ⊢ iprop(((atPos ER (dCell c j k) 1 ∅ 0 ∗ dmaPay m ρ c j k ∗ owesAny c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 s (oM.slice (Rect.unit (s := S256x8192) off' S256x256.size inb') (fun _ => rfl))
                (oM.slice (Rect.unit (s := S256x8192) off S256x256.size inb) (fun _ => rfl)) hsrc hdst) kk) Q) := by
  subst hs
  iintro ⟨#HR, #Hlev, Hc, Hat, ⟨%W, HO⟩⟩ Hk
  iapply (Rounds.wp_wait_rest_token 𝒱₀ ER (sched m ρ) (c : Thread nD τ) none (κ := K (c, some (j, k)))
      (wpE_waitDma2_eq 𝒱₀ (c : Thread nD τ) none Set.univ) (Set.mem_univ _) () (O := O) (W := W) (R := 0) (m := 0) (T := ∅)
      (by rw [Nat.zero_add, expect_dma]; rfl)) $$ [Hc HO Hat]
  · isplitr; · iapply (inv_dma m ρ K c j k); iexact HR
    isplitl [Hc]; · iexact Hc
    isplitl [HO]; · iexact HO
    isplitr; · iapply hmay; iexact Hlev
    iexact Hat
  iintro ⟨HO, Hat, -, Hpay⟩
  iapply Hk
  ihave Hp := (Entails.of_eq (rest_dma m ρ c j k)) $$ Hpay
  isplitl [Hat]; · iexact Hat
  isplitl [Hp]; · iexact Hp
  iexists _; iexact HO

/-! ## The send of a chunk to a neighbour -/

theorem send_op (c n : Dev nD) (q : Dev nD) (j j' : Fin 4) (k : Fin 8) (sh : PosShare TreeShare) (O : CellTallies nD τ sig Unit)
    {n' : Dev nD} (hn : n' = n) {s s' : DmaSem sig} (hs : s = dS j k) (hs' : s' = dS j' k)
    {off off' : Fin 2 → Nat} (hoff : off = colOff q k) (hoff' : off' = colOff q k)
    {inb : ∀ a, off a + S256x256.size a ≤ S256x8192.size a} {inb' : ∀ a, off' a + S256x256.size a ≤ S256x8192.size a}
    (hpay : outE m ρ c q k sh = dmaPay m ρ c j k) (hpay' : outE m ρ n q k fullShare = dmaPay m ρ n j' k) (hsrc' : src n q = src c q)
    {hsc : (oM.slice (Rect.unit (s := S256x8192) off' S256x256.size inb') (fun _ => rfl) : Memref sig (Dev.tc n' : Thread nD τ).2.kind .vmem S256x256 .f32).view.ref.isScScratch = false}
    {hsrc : (oM.slice (Rect.unit (s := S256x8192) off S256x256.size inb) (fun _ => rfl)).view.WordExact}
    {hdst : (oM.slice (Rect.unit (s := S256x8192) off' S256x256.size inb') (fun _ => rfl)).view.WordExact}
    {hsem : DmaTarget.Typed .vmem (.dma s') (.remote (Dev.tc n' : Thread nD τ) (oM.slice (Rect.unit (s := S256x8192) off' S256x256.size inb') (fun _ => rfl)) (.dma s) hsc)}
    {α : Type} {Q : α → sProp 𝕄} {kk : PUnit → Prog (TpuEff nD τ sig (Elt F) Λ₀ .tc) α} :
    iprop(records m ρ K ∗ outE m ρ c q k sh ∗ outAny n q k ∗ dutyTok ER (dCell c j k) 0 false ∗ dutyTok ER (dCell n j' k) 0 false
        ∗ owesAny c (O + tallyAt (dCell n j' k) () N))
      ⊢ iprop(((cred (tallyAt (dCell c j k) () N) ∗ owesAny c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oM.slice (Rect.unit (s := S256x8192) off S256x256.size inb) (fun _ => rfl))
                (.remote (Dev.tc n' : Thread nD τ) (oM.slice (Rect.unit (s := S256x8192) off' S256x256.size inb') (fun _ => rfl)) (.dma s) hsc)
                (.dma s') hsrc hdst hsem) kk) Q) := by
  subst hn hs hs' hoff hoff'
  unfold outAny
  iintro ⟨#HR, Hsrc, ⟨%f, Hdst⟩, Ht, Ht', ⟨%W, HO⟩⟩ Hk
  unfold outE
  iapply (Rounds.wp_send_pointsTo 𝒱₀ ER (sched m ρ) (c : Thread nD τ) none (κ₁ := K (c, some (j, k))) (κ₂ := K (n', some (j', k)))
    (r₁ := 0) (r₂ := 0) (d₁ := false) (d₂ := false) (fd := f)
    (by rw [duties_dma]; exact Finset.mem_singleton_self _) (by rw [duties_dma]; exact Finset.mem_singleton_self _)
    () () N rfl (amount_dma m ρ c j k false) (amount_dma m ρ n' j' k false) O rfl (W := W)
    (by rw [payload_dma, ← hpay]; unfold outE; exact BI.Entails.refl _)
    (by rw [payload_dma, ← hpay']; exact Entails.of_eq (landing m ρ c n' q k hsrc' f))) $$ [Hsrc Hdst HO Ht Ht']
  · isplitr; · iapply (inv_dma m ρ K c j k); iexact HR
    isplitr; · iapply (inv_dma m ρ K n' j' k); iexact HR
    isplitl [Hsrc]; · iexact Hsrc
    isplitl [Hdst]; · iexact Hdst
    isplitl [HO]; · iexact HO
    isplitl [Ht]; · iexact Ht
    isplitr; · iapply (reached_dma m ρ K c j k); iexact HR
    isplitl [Ht']; · iexact Ht'
    iapply (reached_dma m ρ K n' j' k); iexact HR
  iintro ⟨Hc, HO⟩
  iapply Hk
  isplitl [Hc]; · iexact Hc
  iexists W; iexact HO

/-! ## Loads and stores of a chunk -/

/-- A load of a chunk at its final contents. -/
theorem load_op (c q : Dev nD) (k : Fin 8) (sh : PosShare TreeShare)
    {off : Fin 2 → Nat} (hoff : off = colOff q k) {inb : ∀ a, off a + S256x256.size a ≤ S256x8192.size a}
    {hl : (oM : Memref sig .tc .vmem S256x8192 .f32).view.LoadsAt (Rect.unit (s := S256x8192) off S256x256.size inb).toLoadRect}
    {α : Type} {Q : α → sProp 𝕄} {kk : Vec F S256x256 .f32 → Prog (TpuEff nD τ sig (Elt F) Λ₀ .tc) α} :
    outE m ρ c q k sh
      ⊢ iprop((outE m ρ c q k sh -∗ wp frame (wpE (defs₀ (F := F)) 𝒱₀ (c : Thread nD τ) none) Set.univ (kk (chunk m ρ (src c q) q k)) Q)
          -∗ wp frame (wpE (defs₀ (F := F)) 𝒱₀ (c : Thread nD τ) none) Set.univ
              (.op (.load (oM : Memref sig .tc .vmem S256x8192 .f32) (Rect.unit (s := S256x8192) off S256x256.size inb).toLoadRect hl) kk) Q) := by
  subst hoff
  rw [← read_E m ρ c q k]
  unfold outE
  exact wp_load_rect 𝒱₀ (c : Thread nD τ) none Set.univ (m := oM) (r := oRect q k) (Finset.Subset.refl _)

/-- A load of a chunk whose value nothing uses. -/
theorem dead_op (c q : Dev nD) (k : Fin 8)
    {off : Fin 2 → Nat} (hoff : off = colOff q k) {inb : ∀ a, off a + S256x256.size a ≤ S256x8192.size a}
    {hl : (oM : Memref sig .tc .vmem S256x8192 .f32).view.LoadsAt (Rect.unit (s := S256x8192) off S256x256.size inb).toLoadRect}
    {α : Type} {Q : α → sProp 𝕄} {kk : Vec F S256x256 .f32 → Prog (TpuEff nD τ sig (Elt F) Λ₀ .tc) α} :
    outAny c q k
      ⊢ iprop((∀ v, outAny c q k -∗ wp frame (wpE (defs₀ (F := F)) 𝒱₀ (c : Thread nD τ) none) Set.univ (kk v) Q)
          -∗ wp frame (wpE (defs₀ (F := F)) 𝒱₀ (c : Thread nD τ) none) Set.univ
              (.op (.load (oM : Memref sig .tc .vmem S256x8192 .f32) (Rect.unit (s := S256x8192) off S256x256.size inb).toLoadRect hl) kk) Q) := by
  subst hoff
  unfold outAny
  iintro ⟨%f, H⟩ Hk
  iapply (wp_load_rect 𝒱₀ (c : Thread nD τ) none Set.univ (m := oM) (r := oRect q k) (Finset.Subset.refl _)) $$ H
  iintro H
  iapply Hk
  iexists f; iexact H

/-- A store of a chunk's value. -/
theorem store_op (c q : Dev nD) (k : Fin 8)
    {off : Fin 2 → Nat} (hoff : off = colOff q k) {inb : ∀ a, off a + S256x256.size a ≤ S256x8192.size a}
    {w : FVec F S256x256 .f32} (hw : w = chunk m ρ (src c q) q k)
    {hx : ((oM : Memref sig .tc .vmem S256x8192 .f32).access (Rect.unit (s := S256x8192) off S256x256.size inb)).Stores Finset.univ}
    {hm : (Finset.univ : Finset (Rect.unit (s := S256x8192) off S256x256.size inb).shape.Idx) = Finset.univ
      ∨ ∀ a, (Rect.unit (s := S256x8192) off S256x256.size inb).stride a = 1}
    {α : Type} {Q : α → sProp 𝕄} {kk : PUnit → Prog (TpuEff nD τ sig (Elt F) Λ₀ .tc) α} :
    outAny c q k
      ⊢ iprop((outE m ρ c q k fullShare -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (oM : Memref sig .tc .vmem S256x8192 .f32) (Rect.unit (s := S256x8192) off S256x256.size inb) w Finset.univ hx hm) kk) Q) := by
  subst hoff
  unfold outAny
  iintro ⟨%f, H⟩ Hk
  iapply (wp_store 𝒱₀ (c : Thread nD τ) none Set.univ (m := oM) (r := oRect q k) (Mk := Finset.univ) (S := oSet q k) (Finset.Subset.refl _)) $$ H
  iintro H
  iapply Hk
  iapply (Entails.of_eq (stored m ρ c q k f w hw)); iexact H

/-- The two staged arguments, whole. -/
abbrev xPts (c : Dev nD) : sProp 𝕄 := (((c : Thread nD τ).loc cc0_stg0_0) ↦{fullShare} xs m ρ c)
abbrev wPts (c : Dev nD) : sProp 𝕄 := (((c : Thread nD τ).loc cc0_stg1_0) ↦{fullShare} ws m ρ c)

/-- A load of the columns of `W` that chunk `k` of quadrant `q` needs. -/
theorem wload_op (c q : Dev nD) (k : Fin 8)
    {off : Fin 2 → Nat} (hoff : off = wOff q k) {inb : ∀ a, off a + S512x256.size a ≤ S512x4096.size a}
    {hl : (wM : Memref sig .tc .vmem S512x4096 .f32).view.LoadsAt (Rect.unit (s := S512x4096) off S512x256.size inb).toLoadRect}
    {α : Type} {Q : α → sProp 𝕄} {kk : Vec F S512x256 .f32 → Prog (TpuEff nD τ sig (Elt F) Λ₀ .tc) α} :
    wPts m ρ c
      ⊢ iprop((wPts m ρ c -∗ wp frame (wpE (defs₀ (F := F)) 𝒱₀ (c : Thread nD τ) none) Set.univ (kk (wch m ρ c q k)) Q)
          -∗ wp frame (wpE (defs₀ (F := F)) 𝒱₀ (c : Thread nD τ) none) Set.univ
              (.op (.load (wM : Memref sig .tc .vmem S512x4096 .f32) (Rect.unit (s := S512x4096) off S512x256.size inb).toLoadRect hl) kk) Q) := by
  subst hoff
  exact wp_load 𝒱₀ (c : Thread nD τ) none Set.univ (m := wM) (Finset.subset_univ _)

end Cert.KernelIdealProof

end
-- ==== Proof.KernelIdeal.State.lean ====
/-
# The state of the body between two operations, and one step lemma per operation

What a device holds between two operations of the body is determined by how far the body has come in each of its loops:

* of its own quadrant `c`, `s1` chunks are stored, `s2` sent and `w1` of the sends waited for;
* of quadrant `yn c`, `s3` chunks are stored;
* of quadrant `xn c`, `r1` chunks have arrived, `f` are handed on and `w2` of those sends waited for;
* of the last quadrant `r2` chunks have arrived.

`St` is that state. Each step lemma takes one operation off the front of the program and moves one counter.
-/
module

public import proofs.«01_k».proof.Proof.KernelIdeal.Ops

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 8) → ℕ)

/-! ## The state -/

/-- The right to send chunk `k` of the own quadrant: both cells' duties and the place on `xn c`. -/
def sendRight (c : Dev nD) (k : Fin 8) : sProp 𝕄 :=
  iprop(dutyTok ER (dCell c 0 k) 0 false ∗ dutyTok ER (dCell (xn c) 1 k) 0 false ∗ outAny (xn c) c k)
/-- The right to hand on chunk `k` of quadrant `xn c`: both cells' duties and the place on `yn c`. -/
def fwdRight (c : Dev nD) (k : Fin 8) : sProp 𝕄 :=
  iprop(dutyTok ER (dCell c 2 k) 0 false ∗ dutyTok ER (dCell (yn c) 3 k) 0 false ∗ outAny (yn c) (xn c) k)

def own (c : Dev nD) (s1 s2 w1 : ℕ) (k : Fin 8) : sProp 𝕄 :=
  if k.val < w1 then iprop(outE m ρ c c k fullShare ∗ atPos ER (dCell c 0 k) 1 ∅ 0)
  else if k.val < s2 then iprop(cred (tallyAt (dCell c 0 k) () N) ∗ atPos ER (dCell c 0 k) 0 ∅ 0)
  else if k.val < s1 then iprop(outE m ρ c c k fullShare ∗ sendRight c k ∗ atPos ER (dCell c 0 k) 0 ∅ 0)
  else iprop(outAny c c k ∗ sendRight c k ∗ atPos ER (dCell c 0 k) 0 ∅ 0)
def oth (c : Dev nD) (s3 : ℕ) (k : Fin 8) : sProp 𝕄 :=
  if k.val < s3 then outE m ρ c (yn c) k fullShare else outAny c (yn c) k
def nbr (c : Dev nD) (r1 f w2 : ℕ) (k : Fin 8) : sProp 𝕄 :=
  if k.val < w2 then iprop(outE m ρ c (xn c) k fullShare ∗ atPos ER (dCell c 1 k) 1 ∅ 0 ∗ atPos ER (dCell c 2 k) 1 ∅ 0)
  else if k.val < f then iprop(outE m ρ c (xn c) k fullShare.right ∗ cred (tallyAt (dCell c 2 k) () N)
    ∗ atPos ER (dCell c 1 k) 1 ∅ 0 ∗ atPos ER (dCell c 2 k) 0 ∅ 0)
  else if k.val < r1 then iprop(outE m ρ c (xn c) k fullShare ∗ fwdRight c k ∗ atPos ER (dCell c 1 k) 1 ∅ 0 ∗ atPos ER (dCell c 2 k) 0 ∅ 0)
  else iprop(cred (tallyAt (dCell c 1 k) () N) ∗ fwdRight c k ∗ atPos ER (dCell c 1 k) 0 ∅ 0 ∗ atPos ER (dCell c 2 k) 0 ∅ 0)
def dia (c : Dev nD) (r2 : ℕ) (k : Fin 8) : sProp 𝕄 :=
  if k.val < r2 then iprop(outE m ρ c (dg c) k fullShare ∗ atPos ER (dCell c 3 k) 1 ∅ 0)
  else iprop(cred (tallyAt (dCell c 3 k) () N) ∗ atPos ER (dCell c 3 k) 0 ∅ 0)

def St (c : Dev nD) (s1 s2 w1 s3 r1 f w2 r2 : ℕ) : sProp 𝕄 :=
  iprop(records m ρ K ∗ levAts L lv
    ∗ bigSep Finset.univ (own m ρ c s1 s2 w1) ∗ bigSep Finset.univ (oth m ρ c s3)
    ∗ bigSep Finset.univ (nbr m ρ c r1 f w2) ∗ bigSep Finset.univ (dia m ρ c r2)
    ∗ owesAny c (Ow c s2 f) ∗ xPts m ρ c ∗ wPts m ρ c ∗ atPos ER (barCell c) 1 ∅ 0)

/-! ## Moving one summand -/

omit [FloatOps F] in
theorem bigSep_step (Φ Ψ : Fin 8 → sProp 𝕄) (k : Fin 8) (h : ∀ j, j ≠ k → Φ j = Ψ j) {A B : sProp 𝕄} (hA : Φ k = A) (hB : Ψ k = B) :
    bigSep Finset.univ Φ ⊢ iprop(A ∗ (B -∗ bigSep Finset.univ Ψ)) := by
  subst hA hB
  rw [bigSep_univ_at Φ k, bigSep_univ_at Ψ k, bigSep_congr (s := Finset.univ.erase k) fun j hj => h j (Finset.ne_of_mem_erase hj)]
  iintro ⟨H, HR⟩
  isplitl [H]; · iexact H
  iintro H
  isplitl [H] <;> iassumption

theorem lt_step {j k : Fin 8} (h : j ≠ k) : (j.val < k.val + 1) = (j.val < k.val) :=
  propext ⟨fun h' => lt_of_le_of_ne (Nat.le_of_lt_succ h') fun e => h (Fin.ext e), fun h' => Nat.lt_succ_of_lt h'⟩

theorem own_s1 (c : Dev nD) (k j : Fin 8) (s2 w1 : ℕ) (h : j ≠ k) : own m ρ c k.val s2 w1 j = own m ρ c (k.val + 1) s2 w1 j := by
  unfold own; simp only [lt_step h]
theorem own_s2 (c : Dev nD) (k j : Fin 8) (s1 w1 : ℕ) (h : j ≠ k) : own m ρ c s1 k.val w1 j = own m ρ c s1 (k.val + 1) w1 j := by
  unfold own; simp only [lt_step h]
theorem own_w1 (c : Dev nD) (k j : Fin 8) (s1 s2 : ℕ) (h : j ≠ k) : own m ρ c s1 s2 k.val j = own m ρ c s1 s2 (k.val + 1) j := by
  unfold own; simp only [lt_step h]
theorem oth_s3 (c : Dev nD) (k j : Fin 8) (h : j ≠ k) : oth m ρ c k.val j = oth m ρ c (k.val + 1) j := by
  unfold oth; simp only [lt_step h]
theorem nbr_r1 (c : Dev nD) (k j : Fin 8) (f w2 : ℕ) (h : j ≠ k) : nbr m ρ c k.val f w2 j = nbr m ρ c (k.val + 1) f w2 j := by
  unfold nbr; simp only [lt_step h]
theorem nbr_f (c : Dev nD) (k j : Fin 8) (r1 w2 : ℕ) (h : j ≠ k) : nbr m ρ c r1 k.val w2 j = nbr m ρ c r1 (k.val + 1) w2 j := by
  unfold nbr; simp only [lt_step h]
theorem nbr_w2 (c : Dev nD) (k j : Fin 8) (r1 f : ℕ) (h : j ≠ k) : nbr m ρ c r1 f k.val j = nbr m ρ c r1 f (k.val + 1) j := by
  unfold nbr; simp only [lt_step h]
theorem dia_r2 (c : Dev nD) (k j : Fin 8) (h : j ≠ k) : dia m ρ c k.val j = dia m ρ c (k.val + 1) j := by
  unfold dia; simp only [lt_step h]

section Steps

variable (c : Dev nD)

/-! ## The device's own two quadrants -/

/-- The load of columns of `W`. -/
theorem step_w (q : Dev nD) (k : Fin 8) {s1 s2 w1 s3 r1 f w2 r2 : ℕ}
    {off : Fin 2 → Nat} (hoff : off = wOff q k) {inb : ∀ a, off a + S512x256.size a ≤ S512x4096.size a}
    {hl : (wM : Memref sig .tc .vmem S512x4096 .f32).view.LoadsAt (Rect.unit (s := S512x4096) off S512x256.size inb).toLoadRect}
    {α : Type} {Q : α → sProp 𝕄}
    {kk : Vec F S512x256 .f32 → Prog (TpuEff nD τ sig (Elt F) Λ₀ .tc) α}
    (hk : St m ρ K c s1 s2 w1 s3 r1 f w2 r2 ⊢ wp frame (wpE (defs₀ (F := F)) 𝒱₀ (c : Thread nD τ) none) Set.univ (kk (wch m ρ c q k)) Q) :
    St m ρ K c s1 s2 w1 s3 r1 f w2 r2 ⊢ wp frame (wpE (defs₀ (F := F)) 𝒱₀ (c : Thread nD τ) none) Set.univ
      (.op (.load (wM : Memref sig .tc .vmem S512x4096 .f32) (Rect.unit (s := S512x4096) off S512x256.size inb).toLoadRect hl) kk) Q := by
  unfold St
  iintro ⟨#HR, #Hl, H1, H2, H3, H4, HO, Hx, Hw, Hb⟩
  iapply (wload_op m ρ c q k hoff) $$ Hw; iintro Hw
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The load before a store to the own quadrant, whose value is not used. -/
theorem step_dead_own (k : Fin 8) {s2 w1 s3 r1 f w2 r2 : ℕ} (h2 : ¬ k.val < s2) (h3 : ¬ k.val < w1)
    {off : Fin 2 → Nat} (hoff : off = colOff c k) {inb : ∀ a, off a + S256x256.size a ≤ S256x8192.size a}
    {hl : (oM : Memref sig .tc .vmem S256x8192 .f32).view.LoadsAt (Rect.unit (s := S256x8192) off S256x256.size inb).toLoadRect}
    {α : Type} {Q : α → sProp 𝕄}
    {kk : Vec F S256x256 .f32 → Prog (TpuEff nD τ sig (Elt F) Λ₀ .tc) α}
    (hk : ∀ v, St m ρ K c k.val s2 w1 s3 r1 f w2 r2 ⊢ wp frame (wpE (defs₀ (F := F)) 𝒱₀ (c : Thread nD τ) none) Set.univ (kk v) Q) :
    St m ρ K c k.val s2 w1 s3 r1 f w2 r2 ⊢ wp frame (wpE (defs₀ (F := F)) 𝒱₀ (c : Thread nD τ) none) Set.univ
      (.op (.load (oM : Memref sig .tc .vmem S256x8192 .f32) (Rect.unit (s := S256x8192) off S256x256.size inb).toLoadRect hl) kk) Q := by
  unfold St
  iintro ⟨#HR, #Hl, H1, H2, H3, H4, HO, Hx, Hw, Hb⟩
  ihave Hs := (bigSep_step _ (own m ρ c k.val s2 w1) k (fun _ _ => rfl) (by unfold own; rw [if_neg h3, if_neg h2, if_neg (Nat.lt_irrefl _)]) (by unfold own; rw [if_neg h3, if_neg h2, if_neg (Nat.lt_irrefl _)])) $$ H1
  icases Hs with ⟨Hp, Hback⟩
  icases Hp with ⟨Ha, Hr⟩
  iapply (dead_op c c k hoff) $$ Ha; iintro %v Ha
  ihave H1 := Hback $$ [Ha Hr]
  · isplitl [Ha] <;> iassumption
  iapply (hk v); unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The store of a chunk of the own quadrant. -/
theorem step_store_own (k : Fin 8) {s2 w1 s3 r1 f w2 r2 : ℕ} (h2 : ¬ k.val < s2) (h3 : ¬ k.val < w1)
    {off : Fin 2 → Nat} (hoff : off = colOff c k) {inb : ∀ a, off a + S256x256.size a ≤ S256x8192.size a}
    {w : FVec F S256x256 .f32} (hw : w = chunk m ρ c c k)
    {hx : ((oM : Memref sig .tc .vmem S256x8192 .f32).access (Rect.unit (s := S256x8192) off S256x256.size inb)).Stores Finset.univ}
    {hm : (Finset.univ : Finset (Rect.unit (s := S256x8192) off S256x256.size inb).shape.Idx) = Finset.univ
      ∨ ∀ a, (Rect.unit (s := S256x8192) off S256x256.size inb).stride a = 1}
    {α : Type} {Q : α → sProp 𝕄}
    {kk : PUnit → Prog (TpuEff nD τ sig (Elt F) Λ₀ .tc) α}
    (hk : St m ρ K c (k.val + 1) s2 w1 s3 r1 f w2 r2 ⊢ wp frame (wpE (defs₀ (F := F)) 𝒱₀ (c : Thread nD τ) none) Set.univ (kk ⟨⟩) Q) :
    St m ρ K c k.val s2 w1 s3 r1 f w2 r2 ⊢ wp frame (wpE (defs₀ (F := F)) 𝒱₀ (c : Thread nD τ) none) Set.univ
      (.op (.store (oM : Memref sig .tc .vmem S256x8192 .f32) (Rect.unit (s := S256x8192) off S256x256.size inb) w Finset.univ hx hm) kk) Q := by
  unfold St
  iintro ⟨#HR, #Hl, H1, H2, H3, H4, HO, Hx, Hw, Hb⟩
  ihave Hs := (bigSep_step _ (own m ρ c (k.val + 1) s2 w1) k (fun j hj => own_s1 m ρ c k j s2 w1 hj) (by unfold own; rw [if_neg h3, if_neg h2, if_neg (Nat.lt_irrefl _)]) (by unfold own; rw [if_neg h3, if_neg h2, if_pos (Nat.lt_succ_self _)])) $$ H1
  icases Hs with ⟨Hp, Hback⟩
  icases Hp with ⟨Ha, Hr⟩
  iapply (store_op m ρ c c k hoff (hw.trans (by rw [src_self]))) $$ Ha; iintro Ha
  ihave H1 := Hback $$ [Ha Hr]
  · isplitl [Ha] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The send of a chunk of the own quadrant to `xn c`. -/
theorem step_send (k : Fin 8) {s1 w1 s3 r1 f w2 r2 : ℕ} (h1 : k.val < s1) (h3 : ¬ k.val < w1)
    {n' : Dev nD} (hn : n' = xn c) {s s' : DmaSem sig} (hs : s = dS 0 k) (hs' : s' = dS 1 k)
    {off off' : Fin 2 → Nat} (hoff : off = colOff c k) (hoff' : off' = colOff c k)
    {inb : ∀ a, off a + S256x256.size a ≤ S256x8192.size a} {inb' : ∀ a, off' a + S256x256.size a ≤ S256x8192.size a}
    {hsc : (oM.slice (Rect.unit (s := S256x8192) off' S256x256.size inb') (fun _ => rfl) : Memref sig (Dev.tc n' : Thread nD τ).2.kind .vmem S256x256 .f32).view.ref.isScScratch = false}
    {hsrc : (oM.slice (Rect.unit (s := S256x8192) off S256x256.size inb) (fun _ => rfl)).view.WordExact}
    {hdst : (oM.slice (Rect.unit (s := S256x8192) off' S256x256.size inb') (fun _ => rfl)).view.WordExact}
    {hsem : DmaTarget.Typed .vmem (.dma s') (.remote (Dev.tc n' : Thread nD τ) (oM.slice (Rect.unit (s := S256x8192) off' S256x256.size inb') (fun _ => rfl)) (.dma s) hsc)}
    {α : Type} {Q : α → sProp 𝕄}
    {kk : PUnit → Prog (TpuEff nD τ sig (Elt F) Λ₀ .tc) α}
    (hk : St m ρ K c s1 (k.val + 1) w1 s3 r1 f w2 r2 ⊢ wp frame (wpE (defs₀ (F := F)) 𝒱₀ (c : Thread nD τ) none) Set.univ (kk ⟨⟩) Q) :
    St m ρ K c s1 k.val w1 s3 r1 f w2 r2 ⊢ wp frame (wpE (defs₀ (F := F)) 𝒱₀ (c : Thread nD τ) none) Set.univ
      (.op (.enqueueDma (oM.slice (Rect.unit (s := S256x8192) off S256x256.size inb) (fun _ => rfl))
        (.remote (Dev.tc n' : Thread nD τ) (oM.slice (Rect.unit (s := S256x8192) off' S256x256.size inb') (fun _ => rfl)) (.dma s) hsc)
        (.dma s') hsrc hdst hsem) kk) Q := by
  unfold St
  iintro ⟨#HR, #Hl, H1, H2, H3, H4, HO, Hx, Hw, Hb⟩
  ihave Hs := (bigSep_step _ (own m ρ c s1 (k.val + 1) w1) k (fun j hj => own_s2 m ρ c k j s1 w1 hj) (by unfold own; rw [if_neg h3, if_neg (Nat.lt_irrefl _), if_pos h1]) (by unfold own; rw [if_neg h3, if_pos (Nat.lt_succ_self _)])) $$ H1
  icases Hs with ⟨Hp, Hback⟩
  unfold sendRight
  icases Hp with ⟨Ha, ⟨Ht, Ht', Hd⟩, Hat⟩
  rw [Ow_send c k f]
  iapply (send_op m ρ K c (xn c) c 0 1 k fullShare (Ow c (k.val + 1) f) hn hs hs' hoff hoff' rfl
    (by show _ = outE m ρ (xn c) (xn (xn c)) k fullShare; rw [xn_xn]) (by rw [src_xn_self, src_self])) $$ [Ha Hd Ht Ht' HO]
  · isplitr; · iexact HR
    isplitl [Ha]; · iexact Ha
    isplitl [Hd]; · iexact Hd
    isplitl [Ht]; · iexact Ht
    isplitl [Ht'] <;> iassumption
  iintro ⟨Hc, HO⟩
  ihave H1 := Hback $$ [Hc Hat]
  · isplitl [Hc] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The load before a store to quadrant `yn c`, whose value is not used. -/
theorem step_dead_oth (k : Fin 8) {s1 s2 w1 r1 f w2 r2 : ℕ}
    {off : Fin 2 → Nat} (hoff : off = colOff (yn c) k) {inb : ∀ a, off a + S256x256.size a ≤ S256x8192.size a}
    {hl : (oM : Memref sig .tc .vmem S256x8192 .f32).view.LoadsAt (Rect.unit (s := S256x8192) off S256x256.size inb).toLoadRect}
    {α : Type} {Q : α → sProp 𝕄}
    {kk : Vec F S256x256 .f32 → Prog (TpuEff nD τ sig (Elt F) Λ₀ .tc) α}
    (hk : ∀ v, St m ρ K c s1 s2 w1 k.val r1 f w2 r2 ⊢ wp frame (wpE (defs₀ (F := F)) 𝒱₀ (c : Thread nD τ) none) Set.univ (kk v) Q) :
    St m ρ K c s1 s2 w1 k.val r1 f w2 r2 ⊢ wp frame (wpE (defs₀ (F := F)) 𝒱₀ (c : Thread nD τ) none) Set.univ
      (.op (.load (oM : Memref sig .tc .vmem S256x8192 .f32) (Rect.unit (s := S256x8192) off S256x256.size inb).toLoadRect hl) kk) Q := by
  unfold St
  iintro ⟨#HR, #Hl, H1, H2, H3, H4, HO, Hx, Hw, Hb⟩
  ihave Hs := (bigSep_step _ (oth m ρ c k.val) k (fun _ _ => rfl) (by unfold oth; rw [if_neg (Nat.lt_irrefl _)]) (by unfold oth; rw [if_neg (Nat.lt_irrefl _)])) $$ H2
  icases Hs with ⟨Hp, Hback⟩
  iapply (dead_op c (yn c) k hoff) $$ Hp; iintro %v Ha
  ihave H2 := Hback $$ Ha
  iapply (hk v); unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The store of a chunk of quadrant `yn c`. -/
theorem step_store_oth (k : Fin 8) {s1 s2 w1 r1 f w2 r2 : ℕ}
    {off : Fin 2 → Nat} (hoff : off = colOff (yn c) k) {inb : ∀ a, off a + S256x256.size a ≤ S256x8192.size a}
    {w : FVec F S256x256 .f32} (hw : w = chunk m ρ c (yn c) k)
    {hx : ((oM : Memref sig .tc .vmem S256x8192 .f32).access (Rect.unit (s := S256x8192) off S256x256.size inb)).Stores Finset.univ}
    {hm : (Finset.univ : Finset (Rect.unit (s := S256x8192) off S256x256.size inb).shape.Idx) = Finset.univ
      ∨ ∀ a, (Rect.unit (s := S256x8192) off S256x256.size inb).stride a = 1}
    {α : Type} {Q : α → sProp 𝕄}
    {kk : PUnit → Prog (TpuEff nD τ sig (Elt F) Λ₀ .tc) α}
    (hk : St m ρ K c s1 s2 w1 (k.val + 1) r1 f w2 r2 ⊢ wp frame (wpE (defs₀ (F := F)) 𝒱₀ (c : Thread nD τ) none) Set.univ (kk ⟨⟩) Q) :
    St m ρ K c s1 s2 w1 k.val r1 f w2 r2 ⊢ wp frame (wpE (defs₀ (F := F)) 𝒱₀ (c : Thread nD τ) none) Set.univ
      (.op (.store (oM : Memref sig .tc .vmem S256x8192 .f32) (Rect.unit (s := S256x8192) off S256x256.size inb) w Finset.univ hx hm) kk) Q := by
  unfold St
  iintro ⟨#HR, #Hl, H1, H2, H3, H4, HO, Hx, Hw, Hb⟩
  ihave Hs := (bigSep_step _ (oth m ρ c (k.val + 1)) k (fun j hj => oth_s3 m ρ c k j hj) (by unfold oth; rw [if_neg (Nat.lt_irrefl _)]) (by unfold oth; rw [if_pos (Nat.lt_succ_self _)])) $$ H2
  icases Hs with ⟨Hp, Hback⟩
  iapply (store_op m ρ c (yn c) k hoff (hw.trans (by rw [src_yn]))) $$ Hp; iintro Ha
  ihave H2 := Hback $$ Ha
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-! ## The quadrant that comes from `xn c` -/

/-- The wait for a chunk of quadrant `xn c`. -/
theorem step_recv (k : Fin 8) {s1 w1 s3 f w2 r2 : ℕ} (h2 : ¬ k.val < f) (h3 : ¬ k.val < w2)
    {s : DmaSem sig} (hs : s = dS 1 k) {off off' : Fin 2 → Nat} {inb : ∀ a, off a + S256x256.size a ≤ S256x8192.size a}
    {inb' : ∀ a, off' a + S256x256.size a ≤ S256x8192.size a}
    {hsrc : (oM.slice (Rect.unit (s := S256x8192) off' S256x256.size inb') (fun _ => rfl)).view.WordExact}
    {hdst : (oM.slice (Rect.unit (s := S256x8192) off S256x256.size inb) (fun _ => rfl)).view.WordExact}
    {α : Type} {Q : α → sProp 𝕄}
    {kk : PUnit → Prog (TpuEff nD τ sig (Elt F) Λ₀ .tc) α}
    (hk : St m ρ K c s1 8 w1 s3 (k.val + 1) f w2 r2 ⊢ wp frame (wpE (defs₀ (F := F)) 𝒱₀ (c : Thread nD τ) none) Set.univ (kk ⟨⟩) Q) :
    St m ρ K c s1 8 w1 s3 k.val f w2 r2 ⊢ wp frame (wpE (defs₀ (F := F)) 𝒱₀ (c : Thread nD τ) none) Set.univ
      (.op (.waitDma2 s (oM.slice (Rect.unit (s := S256x8192) off' S256x256.size inb') (fun _ => rfl))
        (oM.slice (Rect.unit (s := S256x8192) off S256x256.size inb) (fun _ => rfl)) hsrc hdst) kk) Q := by
  unfold St
  iintro ⟨#HR, #Hl, H1, H2, H3, H4, HO, Hx, Hw, Hb⟩
  ihave Hs := (bigSep_step _ (nbr m ρ c (k.val + 1) f w2) k (fun j hj => nbr_r1 m ρ c k j f w2 hj) (by unfold nbr; rw [if_neg h3, if_neg h2, if_neg (Nat.lt_irrefl _)]) (by unfold nbr; rw [if_neg h3, if_neg h2, if_pos (Nat.lt_succ_self _)])) $$ H3
  icases Hs with ⟨Hp, Hback⟩
  icases Hp with ⟨Hc, Hr, Hat, Hat'⟩
  iapply (wait_op m ρ K c 1 k (Ow c 8 f) hs (mayWait_xrecv c k f)) $$ [Hc Hat HO]
  · isplitr; · iexact HR
    isplitr; · iexact Hl
    isplitl [Hc]; · iexact Hc
    isplitl [Hat] <;> iassumption
  iintro ⟨Hat, Hp, HO⟩
  ihave H3 := Hback $$ [Hp Hr Hat Hat']
  · isplitl [Hp]; · unfold dmaPay quad shr; iexact Hp
    isplitl [Hr]; · iexact Hr
    isplitl [Hat] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- Handing a chunk of quadrant `xn c` on to `yn c`: half of the chunk is lent to the copy. -/
theorem step_fwd (k : Fin 8) {s1 w1 s3 r1 w2 r2 : ℕ} (h1 : k.val < r1) (h3 : ¬ k.val < w2)
    {n' : Dev nD} (hn : n' = yn c) {s s' : DmaSem sig} (hs : s = dS 2 k) (hs' : s' = dS 3 k)
    {off off' : Fin 2 → Nat} (hoff : off = colOff (xn c) k) (hoff' : off' = colOff (xn c) k)
    {inb : ∀ a, off a + S256x256.size a ≤ S256x8192.size a} {inb' : ∀ a, off' a + S256x256.size a ≤ S256x8192.size a}
    {hsc : (oM.slice (Rect.unit (s := S256x8192) off' S256x256.size inb') (fun _ => rfl) : Memref sig (Dev.tc n' : Thread nD τ).2.kind .vmem S256x256 .f32).view.ref.isScScratch = false}
    {hsrc : (oM.slice (Rect.unit (s := S256x8192) off S256x256.size inb) (fun _ => rfl)).view.WordExact}
    {hdst : (oM.slice (Rect.unit (s := S256x8192) off' S256x256.size inb') (fun _ => rfl)).view.WordExact}
    {hsem : DmaTarget.Typed .vmem (.dma s') (.remote (Dev.tc n' : Thread nD τ) (oM.slice (Rect.unit (s := S256x8192) off' S256x256.size inb') (fun _ => rfl)) (.dma s) hsc)}
    {α : Type} {Q : α → sProp 𝕄}
    {kk : PUnit → Prog (TpuEff nD τ sig (Elt F) Λ₀ .tc) α}
    (hk : St m ρ K c s1 8 w1 s3 r1 (k.val + 1) w2 r2 ⊢ wp frame (wpE (defs₀ (F := F)) 𝒱₀ (c : Thread nD τ) none) Set.univ (kk ⟨⟩) Q) :
    St m ρ K c s1 8 w1 s3 r1 k.val w2 r2 ⊢ wp frame (wpE (defs₀ (F := F)) 𝒱₀ (c : Thread nD τ) none) Set.univ
      (.op (.enqueueDma (oM.slice (Rect.unit (s := S256x8192) off S256x256.size inb) (fun _ => rfl))
        (.remote (Dev.tc n' : Thread nD τ) (oM.slice (Rect.unit (s := S256x8192) off' S256x256.size inb') (fun _ => rfl)) (.dma s) hsc)
        (.dma s') hsrc hdst hsem) kk) Q := by
  unfold St
  iintro ⟨#HR, #Hl, H1, H2, H3, H4, HO, Hx, Hw, Hb⟩
  ihave Hs := (bigSep_step _ (nbr m ρ c r1 (k.val + 1) w2) k (fun j hj => nbr_f m ρ c k j r1 w2 hj) (by unfold nbr; rw [if_neg h3, if_neg (Nat.lt_irrefl _), if_pos h1]) (by unfold nbr; rw [if_neg h3, if_pos (Nat.lt_succ_self _)])) $$ H3
  icases Hs with ⟨Hp, Hback⟩
  unfold fwdRight
  icases Hp with ⟨Ha, ⟨Ht, Ht', Hd⟩, Hat, Hat'⟩
  ihave Hs := (outE_share m ρ c (xn c) k).1 $$ Ha
  icases Hs with ⟨Ha, Hh⟩
  rw [Ow_fwd c k]
  iapply (send_op m ρ K c (yn c) (xn c) 2 3 k fullShare.left (Ow c 8 (k.val + 1)) hn hs hs' hoff hoff' rfl
    (by show _ = outE m ρ (yn c) (xn (yn (yn c))) k fullShare; rw [yn_yn]) (by rw [src_yn_xn, src_xn])) $$ [Ha Hd Ht Ht' HO]
  · isplitr; · iexact HR
    isplitl [Ha]; · iexact Ha
    isplitl [Hd]; · iexact Hd
    isplitl [Ht]; · iexact Ht
    isplitl [Ht'] <;> iassumption
  iintro ⟨Hc, HO⟩
  ihave H3 := Hback $$ [Hh Hc Hat Hat']
  · isplitl [Hh]; · iexact Hh
    isplitl [Hc]; · iexact Hc
    isplitl [Hat] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The load of a chunk of quadrant `xn c` while it is being handed on. -/
theorem step_load_nbr (k : Fin 8) {s1 s2 w1 s3 r1 f w2 r2 : ℕ} (h1 : k.val < f) (h3 : ¬ k.val < w2)
    {off : Fin 2 → Nat} (hoff : off = colOff (xn c) k) {inb : ∀ a, off a + S256x256.size a ≤ S256x8192.size a}
    {hl : (oM : Memref sig .tc .vmem S256x8192 .f32).view.LoadsAt (Rect.unit (s := S256x8192) off S256x256.size inb).toLoadRect}
    {α : Type} {Q : α → sProp 𝕄}
    {kk : Vec F S256x256 .f32 → Prog (TpuEff nD τ sig (Elt F) Λ₀ .tc) α}
    (hk : St m ρ K c s1 s2 w1 s3 r1 f w2 r2 ⊢ wp frame (wpE (defs₀ (F := F)) 𝒱₀ (c : Thread nD τ) none) Set.univ (kk (chunk m ρ (xn c) (xn c) k)) Q) :
    St m ρ K c s1 s2 w1 s3 r1 f w2 r2 ⊢ wp frame (wpE (defs₀ (F := F)) 𝒱₀ (c : Thread nD τ) none) Set.univ
      (.op (.load (oM : Memref sig .tc .vmem S256x8192 .f32) (Rect.unit (s := S256x8192) off S256x256.size inb).toLoadRect hl) kk) Q := by
  unfold St
  iintro ⟨#HR, #Hl, H1, H2, H3, H4, HO, Hx, Hw, Hb⟩
  ihave Hs := (bigSep_step _ (nbr m ρ c r1 f w2) k (fun _ _ => rfl) (by unfold nbr; rw [if_neg h3, if_pos h1]) (by unfold nbr; rw [if_neg h3, if_pos h1])) $$ H3
  icases Hs with ⟨Hp, Hback⟩
  icases Hp with ⟨Ha, Hr⟩
  iapply (load_op m ρ c (xn c) k fullShare.right hoff) $$ Ha; iintro Ha
  rw [src_xn]
  ihave H3 := Hback $$ [Ha Hr]
  · isplitl [Ha] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-! ## The last quadrant -/

/-- The wait for a chunk of the last quadrant. -/
theorem step_recv_dia (k : Fin 8) {s1 w1 s3 r1 w2 : ℕ}
    {s : DmaSem sig} (hs : s = dS 3 k) {off off' : Fin 2 → Nat} {inb : ∀ a, off a + S256x256.size a ≤ S256x8192.size a}
    {inb' : ∀ a, off' a + S256x256.size a ≤ S256x8192.size a}
    {hsrc : (oM.slice (Rect.unit (s := S256x8192) off' S256x256.size inb') (fun _ => rfl)).view.WordExact}
    {hdst : (oM.slice (Rect.unit (s := S256x8192) off S256x256.size inb) (fun _ => rfl)).view.WordExact}
    {α : Type} {Q : α → sProp 𝕄}
    {kk : PUnit → Prog (TpuEff nD τ sig (Elt F) Λ₀ .tc) α}
    (hk : St m ρ K c s1 8 w1 s3 r1 8 w2 (k.val + 1) ⊢ wp frame (wpE (defs₀ (F := F)) 𝒱₀ (c : Thread nD τ) none) Set.univ (kk ⟨⟩) Q) :
    St m ρ K c s1 8 w1 s3 r1 8 w2 k.val ⊢ wp frame (wpE (defs₀ (F := F)) 𝒱₀ (c : Thread nD τ) none) Set.univ
      (.op (.waitDma2 s (oM.slice (Rect.unit (s := S256x8192) off' S256x256.size inb') (fun _ => rfl))
        (oM.slice (Rect.unit (s := S256x8192) off S256x256.size inb) (fun _ => rfl)) hsrc hdst) kk) Q := by
  unfold St
  iintro ⟨#HR, #Hl, H1, H2, H3, H4, HO, Hx, Hw, Hb⟩
  ihave Hs := (bigSep_step _ (dia m ρ c (k.val + 1)) k (fun j hj => dia_r2 m ρ c k j hj) (by unfold dia; rw [if_neg (Nat.lt_irrefl _)]) (by unfold dia; rw [if_pos (Nat.lt_succ_self _)])) $$ H4
  icases Hs with ⟨Hp, Hback⟩
  icases Hp with ⟨Hc, Hat⟩
  iapply (wait_op m ρ K c 3 k (Ow c 8 8) hs (mayWait_end c _)) $$ [Hc Hat HO]
  · isplitr; · iexact HR
    isplitr; · iexact Hl
    isplitl [Hc]; · iexact Hc
    isplitl [Hat] <;> iassumption
  iintro ⟨Hat, Hp, HO⟩
  ihave H4 := Hback $$ [Hp Hat]
  · isplitl [Hp]; · unfold dmaPay quad shr; iexact Hp
    iexact Hat
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The load of a chunk of the last quadrant. -/
theorem step_load_dia (k : Fin 8) {s1 s2 w1 s3 r1 f w2 r2 : ℕ} (h1 : k.val < r2)
    {off : Fin 2 → Nat} (hoff : off = colOff (dg c) k) {inb : ∀ a, off a + S256x256.size a ≤ S256x8192.size a}
    {hl : (oM : Memref sig .tc .vmem S256x8192 .f32).view.LoadsAt (Rect.unit (s := S256x8192) off S256x256.size inb).toLoadRect}
    {α : Type} {Q : α → sProp 𝕄}
    {kk : Vec F S256x256 .f32 → Prog (TpuEff nD τ sig (Elt F) Λ₀ .tc) α}
    (hk : St m ρ K c s1 s2 w1 s3 r1 f w2 r2 ⊢ wp frame (wpE (defs₀ (F := F)) 𝒱₀ (c : Thread nD τ) none) Set.univ (kk (chunk m ρ (dg c) (dg c) k)) Q) :
    St m ρ K c s1 s2 w1 s3 r1 f w2 r2 ⊢ wp frame (wpE (defs₀ (F := F)) 𝒱₀ (c : Thread nD τ) none) Set.univ
      (.op (.load (oM : Memref sig .tc .vmem S256x8192 .f32) (Rect.unit (s := S256x8192) off S256x256.size inb).toLoadRect hl) kk) Q := by
  unfold St
  iintro ⟨#HR, #Hl, H1, H2, H3, H4, HO, Hx, Hw, Hb⟩
  ihave Hs := (bigSep_step _ (dia m ρ c r2) k (fun _ _ => rfl) (by unfold dia; rw [if_pos h1]) (by unfold dia; rw [if_pos h1])) $$ H4
  icases Hs with ⟨Hp, Hback⟩
  icases Hp with ⟨Ha, Hr⟩
  iapply (load_op m ρ c (dg c) k fullShare hoff) $$ Ha; iintro Ha
  rw [src_dg]
  ihave H4 := Hback $$ [Ha Hr]
  · isplitl [Ha] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-! ## The sends come back -/

/-- The wait for a send of the own quadrant. -/
theorem step_wait_send (k : Fin 8) {s1 s3 r1 w2 r2 : ℕ}
    {s : DmaSem sig} (hs : s = dS 0 k) {off off' : Fin 2 → Nat} {inb : ∀ a, off a + S256x256.size a ≤ S256x8192.size a}
    {inb' : ∀ a, off' a + S256x256.size a ≤ S256x8192.size a}
    {hsrc : (oM.slice (Rect.unit (s := S256x8192) off' S256x256.size inb') (fun _ => rfl)).view.WordExact}
    {hdst : (oM.slice (Rect.unit (s := S256x8192) off S256x256.size inb) (fun _ => rfl)).view.WordExact}
    {α : Type} {Q : α → sProp 𝕄}
    {kk : PUnit → Prog (TpuEff nD τ sig (Elt F) Λ₀ .tc) α}
    (hk : St m ρ K c s1 8 (k.val + 1) s3 r1 8 w2 r2 ⊢ wp frame (wpE (defs₀ (F := F)) 𝒱₀ (c : Thread nD τ) none) Set.univ (kk ⟨⟩) Q) :
    St m ρ K c s1 8 k.val s3 r1 8 w2 r2 ⊢ wp frame (wpE (defs₀ (F := F)) 𝒱₀ (c : Thread nD τ) none) Set.univ
      (.op (.waitDma2 s (oM.slice (Rect.unit (s := S256x8192) off' S256x256.size inb') (fun _ => rfl))
        (oM.slice (Rect.unit (s := S256x8192) off S256x256.size inb) (fun _ => rfl)) hsrc hdst) kk) Q := by
  unfold St
  iintro ⟨#HR, #Hl, H1, H2, H3, H4, HO, Hx, Hw, Hb⟩
  ihave Hs := (bigSep_step _ (own m ρ c s1 8 (k.val + 1)) k (fun j hj => own_w1 m ρ c k j s1 8 hj) (by unfold own; rw [if_neg (Nat.lt_irrefl _), if_pos k.isLt]) (by unfold own; rw [if_pos (Nat.lt_succ_self _)])) $$ H1
  icases Hs with ⟨Hp, Hback⟩
  icases Hp with ⟨Hc, Hat⟩
  iapply (wait_op m ρ K c 0 k (Ow c 8 8) hs (mayWait_end c _)) $$ [Hc Hat HO]
  · isplitr; · iexact HR
    isplitr; · iexact Hl
    isplitl [Hc]; · iexact Hc
    isplitl [Hat] <;> iassumption
  iintro ⟨Hat, Hp, HO⟩
  ihave H1 := Hback $$ [Hp Hat]
  · isplitl [Hp]; · unfold dmaPay quad shr; iexact Hp
    iexact Hat
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

/-- The wait for a forward: the half lent comes back. -/
theorem step_wait_fwd (k : Fin 8) {s1 w1 s3 r1 r2 : ℕ}
    {s : DmaSem sig} (hs : s = dS 2 k) {off off' : Fin 2 → Nat} {inb : ∀ a, off a + S256x256.size a ≤ S256x8192.size a}
    {inb' : ∀ a, off' a + S256x256.size a ≤ S256x8192.size a}
    {hsrc : (oM.slice (Rect.unit (s := S256x8192) off' S256x256.size inb') (fun _ => rfl)).view.WordExact}
    {hdst : (oM.slice (Rect.unit (s := S256x8192) off S256x256.size inb) (fun _ => rfl)).view.WordExact}
    {α : Type} {Q : α → sProp 𝕄}
    {kk : PUnit → Prog (TpuEff nD τ sig (Elt F) Λ₀ .tc) α}
    (hk : St m ρ K c s1 8 w1 s3 r1 8 (k.val + 1) r2 ⊢ wp frame (wpE (defs₀ (F := F)) 𝒱₀ (c : Thread nD τ) none) Set.univ (kk ⟨⟩) Q) :
    St m ρ K c s1 8 w1 s3 r1 8 k.val r2 ⊢ wp frame (wpE (defs₀ (F := F)) 𝒱₀ (c : Thread nD τ) none) Set.univ
      (.op (.waitDma2 s (oM.slice (Rect.unit (s := S256x8192) off' S256x256.size inb') (fun _ => rfl))
        (oM.slice (Rect.unit (s := S256x8192) off S256x256.size inb) (fun _ => rfl)) hsrc hdst) kk) Q := by
  unfold St
  iintro ⟨#HR, #Hl, H1, H2, H3, H4, HO, Hx, Hw, Hb⟩
  ihave Hs := (bigSep_step _ (nbr m ρ c r1 8 (k.val + 1)) k (fun j hj => nbr_w2 m ρ c k j r1 8 hj) (by unfold nbr; rw [if_neg (Nat.lt_irrefl _), if_pos k.isLt]) (by unfold nbr; rw [if_pos (Nat.lt_succ_self _)])) $$ H3
  icases Hs with ⟨Hp, Hback⟩
  icases Hp with ⟨Hh, Hc, Hat, Hat'⟩
  iapply (wait_op m ρ K c 2 k (Ow c 8 8) hs (mayWait_end c _)) $$ [Hc Hat' HO]
  · isplitr; · iexact HR
    isplitr; · iexact Hl
    isplitl [Hc]; · iexact Hc
    isplitl [Hat'] <;> iassumption
  iintro ⟨Hat', Hp, HO⟩
  ihave H3 := Hback $$ [Hp Hh Hat Hat']
  · isplitl [Hp Hh]
    · iapply (outE_share m ρ c (xn c) k).2
      isplitl [Hp]; · unfold dmaPay quad shr; iexact Hp
      iexact Hh
    isplitl [Hat] <;> iassumption
  iapply hk; unfold St
  isplitr; · iexact HR
  isplitr; · iexact Hl
  isplitl [H1]; · iexact H1
  isplitl [H2]; · iexact H2
  isplitl [H3]; · iexact H3
  isplitl [H4]; · iexact H4
  isplitl [HO]; · iexact HO
  isplitl [Hx]; · iexact Hx
  isplitl [Hw]; · iexact Hw
  iexact Hb

end Steps

end Cert.KernelIdealProof

end
-- ==== Proof.KernelIdeal.Ends.lean ====
/-
# Into and out of the state `St`

The body begins with the handshake: device `c` hands each neighbour the places that the neighbour will write, and gets
the places that it will write itself. Before it, `c` holds its whole staging buffer; after it, `St` with all counters 0.
At the end, `St` with all counters 8, the chunks are put together to the whole buffer holding `E c`, the semaphore cells
are closed, and the buffer is overwritten by its quotient by the row sums.
-/
module

public import proofs.«01_k».proof.Proof.KernelIdeal.State

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 8) → ℕ)

/-! ## The staging buffer and its chunks -/

omit [FloatOps F] in
theorem bigSep_dev (c : Dev nD) (Φ : Dev nD → sProp 𝕄) : bigSep Finset.univ Φ = iprop(Φ c ∗ Φ (yn c) ∗ Φ (xn c) ∗ Φ (dg c)) :=
  bigSep_univ_eq_bigSepL [c, yn c, xn c, dg c] (by revert c; decide) (by revert c; decide) Φ
omit [FloatOps F] in
theorem bigSep_fam (Φ : Fin 4 → sProp 𝕄) : bigSep Finset.univ Φ = iprop(Φ 0 ∗ Φ 1 ∗ Φ 2 ∗ Φ 3) :=
  bigSep_univ_eq_bigSepL [0, 1, 2, 3] (by decide) (by decide) Φ

abbrev oPts (c : Dev nD) (f : Out F) : sProp 𝕄 := (((c : Thread nD τ).loc cc0_stg2_0) ↦{fullShare} (f : Buf (Elt F) ((c : Thread nD τ).loc cc0_stg2_0)))

/-- The whole buffer is its 32 chunks. -/
theorem out_pieces (c : Dev nD) (f : Out F) : (oPts c f : sProp 𝕄)
    = bigSep Finset.univ fun q : Dev nD => bigSep Finset.univ fun k : Fin 8 =>
        ((oV q k).view.loc (c : Thread nD τ) ↦[oSet q k]{fullShare} (f : Buf (Elt F) ((oV q k).view.loc (c : Thread nD τ))) : sProp 𝕄) := by
  have h := pointsTo_biUnion (Ix := Unit) (Name := ℕ) (U := UU) (Lvl := ℕ) (ℓ := (c : Thread nD τ).loc cc0_stg2_0) (q := fullShare)
    (f := (f : Buf (Elt F) ((c : Thread nD τ).loc cc0_stg2_0)))
    (Finset.univ : Finset (Dev nD × Fin 8)) (fun p => oSet p.1 p.2) (fun p _ p' _ hne => oSet_disjoint hne)
  rw [oSet_cover, bigSep_univ_prod] at h
  exact h

/-- The eight places of quadrant `q` on device `c`. -/
def places (c q : Dev nD) : sProp 𝕄 := bigSep Finset.univ fun k : Fin 8 => outAny c q k

omit [FloatOps F] in
theorem any_intro (c q : Dev nD) (k : Fin 8) (f : Buf (Elt F) ((oV q k).view.loc (c : Thread nD τ))) :
    ((oV q k).view.loc (c : Thread nD τ) ↦[oSet q k]{fullShare} f : sProp 𝕄) ⊢ outAny c q k := by
  unfold outAny; iintro H; iexists _; iexact H

theorem out_split (c : Dev nD) (f : Out F) :
    (oPts c f : sProp 𝕄) ⊢ iprop(places c c ∗ places c (yn c) ∗ places c (xn c) ∗ places c (dg c)) := by
  rw [out_pieces, ← bigSep_dev c (places c)]
  refine bigSep_mono fun q _ => ?_
  unfold places
  exact bigSep_mono fun k _ => any_intro c q k f

theorem out_glue (c : Dev nD) :
    iprop((bigSep Finset.univ fun k => outE m ρ c c k fullShare) ∗ (bigSep Finset.univ fun k => outE m ρ c (yn c) k fullShare)
      ∗ (bigSep Finset.univ fun k => outE m ρ c (xn c) k fullShare) ∗ (bigSep Finset.univ fun k => outE m ρ c (dg c) k fullShare))
    = (oPts c (E m ρ c) : sProp 𝕄) := by
  rw [out_pieces, bigSep_dev c]; rfl

/-! ## What the launch deals a device -/

abbrev toksAt (c : Dev nD) (j : Fin 4) : sProp 𝕄 := bigSep Finset.univ fun k : Fin 8 => dutyTok ER (dCell c j k) 0 false
abbrev posAt (c : Dev nD) (j : Fin 4) (r : ℕ) : sProp 𝕄 := bigSep Finset.univ fun k : Fin 8 => atPos ER (dCell c j k) r ∅ 0
abbrev credAt (c : Dev nD) (j : Fin 4) : sProp 𝕄 := bigSep Finset.univ fun k : Fin 8 => cred (tallyAt (dCell c j k) () N)

/-- The duties that device `c` fulfils. -/
def payToks (c : Dev nD) : sProp 𝕄 :=
  iprop(dutyTok ER (barCell (xn c)) 0 false ∗ dutyTok ER (barCell (yn c)) 0 true ∗ toksAt c 0 ∗ toksAt (xn c) 1 ∗ toksAt c 2 ∗ toksAt (yn c) 3)
/-- Its cells are at round 0. -/
def poss (c : Dev nD) : sProp 𝕄 := iprop(atPos ER (barCell c) 0 ∅ 0 ∗ posAt c 0 0 ∗ posAt c 1 0 ∗ posAt c 2 0 ∗ posAt c 3 0)
/-- What will arrive for it. -/
def creds (c : Dev nD) : sProp 𝕄 := iprop(cred (tallyAt (barCell c) () 2) ∗ credAt c 1 ∗ credAt c 3)

def ghost (c : Dev nD) : sProp 𝕄 := iprop(∃ K, records m ρ K ∗ poss c ∗ payToks c)
def start (c : Dev nD) : sProp 𝕄 := iprop(ghost m ρ c ∗ creds c ∗ levAts L lv)

/-! ## The state at its two ends -/

theorem own_start (c : Dev nD) : (bigSep Finset.univ (own m ρ c 0 0 0) : sProp 𝕄)
    = iprop(places c c ∗ (toksAt c 0 ∗ toksAt (xn c) 1 ∗ places (xn c) c) ∗ posAt c 0 0) := by
  rw [bigSep_congr (Ψ := fun k => iprop(outAny c c k ∗ sendRight c k ∗ atPos ER (dCell c 0 k) 0 ∅ 0)) fun k _ => by
    unfold own; rw [if_neg (Nat.not_lt_zero _), if_neg (Nat.not_lt_zero _), if_neg (Nat.not_lt_zero _)]]
  unfold sendRight
  rw [bigSep_sep', bigSep_sep', bigSep_sep', bigSep_sep']; rfl
theorem oth_start (c : Dev nD) : (bigSep Finset.univ (oth m ρ c 0) : sProp 𝕄) = places c (yn c) :=
  bigSep_congr fun k _ => by unfold oth; rw [if_neg (Nat.not_lt_zero _)]
theorem nbr_start (c : Dev nD) : (bigSep Finset.univ (nbr m ρ c 0 0 0) : sProp 𝕄)
    = iprop(credAt c 1 ∗ (toksAt c 2 ∗ toksAt (yn c) 3 ∗ places (yn c) (xn c)) ∗ posAt c 1 0 ∗ posAt c 2 0) := by
  rw [bigSep_congr (Ψ := fun k => iprop(cred (tallyAt (dCell c 1 k) () N) ∗ fwdRight c k ∗ atPos ER (dCell c 1 k) 0 ∅ 0 ∗ atPos ER (dCell c 2 k) 0 ∅ 0)) fun k _ => by
    unfold nbr; rw [if_neg (Nat.not_lt_zero _), if_neg (Nat.not_lt_zero _), if_neg (Nat.not_lt_zero _)]]
  unfold fwdRight
  rw [bigSep_sep', bigSep_sep', bigSep_sep', bigSep_sep', bigSep_sep']; rfl
theorem dia_start (c : Dev nD) : (bigSep Finset.univ (dia m ρ c 0) : sProp 𝕄) = iprop(credAt c 3 ∗ posAt c 3 0) := by
  rw [bigSep_congr (Ψ := fun k => iprop(cred (tallyAt (dCell c 3 k) () N) ∗ atPos ER (dCell c 3 k) 0 ∅ 0)) fun k _ => by
    unfold dia; rw [if_neg (Nat.not_lt_zero _)]]
  rw [bigSep_sep']

theorem own_end (c : Dev nD) : (bigSep Finset.univ (own m ρ c 8 8 8) : sProp 𝕄)
    = iprop((bigSep Finset.univ fun k => outE m ρ c c k fullShare) ∗ posAt c 0 1) := by
  rw [← bigSep_sep']; exact bigSep_congr fun k _ => by unfold own; rw [if_pos k.isLt]
theorem oth_end (c : Dev nD) : (bigSep Finset.univ (oth m ρ c 8) : sProp 𝕄) = bigSep Finset.univ fun k => outE m ρ c (yn c) k fullShare :=
  bigSep_congr fun k _ => by unfold oth; rw [if_pos k.isLt]
theorem nbr_end (c : Dev nD) : (bigSep Finset.univ (nbr m ρ c 8 8 8) : sProp 𝕄)
    = iprop((bigSep Finset.univ fun k => outE m ρ c (xn c) k fullShare) ∗ posAt c 1 1 ∗ posAt c 2 1) := by
  rw [← bigSep_sep', ← bigSep_sep']; exact bigSep_congr fun k _ => by unfold nbr; rw [if_pos k.isLt]
theorem dia_end (c : Dev nD) : (bigSep Finset.univ (dia m ρ c 8) : sProp 𝕄)
    = iprop((bigSep Finset.univ fun k => outE m ρ c (dg c) k fullShare) ∗ posAt c 3 1) := by
  rw [← bigSep_sep']; exact bigSep_congr fun k _ => by unfold dia; rw [if_pos k.isLt]

/-! ## The handshake -/

theorem dev_eq {v : ℕ} {h : v < nD} {n : Dev nD} (hv : v = n.val) : (⟨v, h⟩ : Dev nD) = n := Fin.ext hv

theorem pay_xn (c : Dev nD) : (places c (xn c) : sProp 𝕄) = barPay (xn c) false := by
  unfold places barPay; rw [if_neg (by decide), xn_xn]
theorem pay_yn (c : Dev nD) : (places c (dg c) : sProp 𝕄) = barPay (yn c) true := by
  unfold places barPay; rw [if_pos rfl, yn_yn]

theorem pay_got (c : Dev nD) : (barPay c false : sProp 𝕄) = places (xn c) c := by
  unfold places barPay; rw [if_neg (by decide)]
theorem pay_got' (c : Dev nD) : (barPay c true : sProp 𝕄) = places (yn c) (xn c) := by
  unfold places barPay; rw [if_pos rfl]

theorem enter (c : Dev nD) (f : Out F) {Q : PUnit → sProp 𝕄} {inb : ∀ a, (![0, 0] : Fin 2 → Nat) a + S256x512.size a ≤ S256x512.size a}
    {l : (xM : Memref sig .tc .vmem S256x512 .f32).view.LoadsAt (Rect.unit (s := S256x512) ![0, 0] S256x512.size inb).toLoadRect}
    {kk : Vec F S256x512 .f32 → Prog (TpuEff nD τ sig (Elt F) Λ₀ .tc) PUnit}
    {n1 n2 : Dev nD} (hn1 : n1 = xn c) (hn2 : n2 = yn c)
    (hk : St m ρ K c 0 0 0 0 0 0 0 0 ⊢ wp frame (wpE (defs₀ (F := F)) 𝒱₀ (c : Thread nD τ) none) Set.univ (kk (xv m ρ c)) Q) :
    iprop((records m ρ K ∗ poss c ∗ payToks c) ∗ (creds c ∗ levAts L lv) ∗ owesAny c (O₀ c) ∗ xPts m ρ c ∗ wPts m ρ c ∗ oPts c f)
      ⊢ wp frame (wpE (defs₀ (F := F)) 𝒱₀ (c : Thread nD τ) none) Set.univ
        (.op (.semSignal (Dev.tc n1 : Thread nD τ) barS (1#32 : BitVec 32).toNat) fun _ =>
         .op (.semSignal (Dev.tc n2 : Thread nD τ) barS (1#32 : BitVec 32).toNat) fun _ =>
         .op (.semWait barS (2#32 : BitVec 32).toNat) fun _ =>
         .op (.load (xM : Memref sig .tc .vmem S256x512 .f32) (Rect.unit (s := S256x512) ![0, 0] S256x512.size inb).toLoadRect l) kk) Q := by
  subst hn1 hn2
  unfold poss payToks creds
  iintro ⟨⟨#HR, ⟨Pb, P0, P1, P2, P3⟩, TX, TY, T0, T1, T2, T3⟩, ⟨⟨Cb, C1, C3⟩, #Hl⟩, ⟨%W, HO⟩, Hx, Hw, Ho⟩
  ihave Hp := (out_split c f) $$ Ho
  icases Hp with ⟨Hc, Hy, HX, HD⟩
  iapply (Rounds.wp_signal 𝒱₀ ER (sched m ρ) (c : Thread nD τ) none (dst := (xn c : Thread nD τ)) (κ := K (xn c, none))
      (d := false) (by rw [duties_bar]; exact Finset.mem_univ _) ((amount_bar m ρ (xn c) false).trans (by decide)) () (O₁ c) rfl)
    $$ [HO TX HX]
  · isplitr; · iapply (inv_bar m ρ K (xn c)); iexact HR
    isplitl [HO]; · iexact HO
    isplitl [TX]; · iexact TX
    isplitl [HX]; · rw [payload_bar, ← pay_xn]; iexact HX
    iapply (reached_bar m ρ K (xn c)); iexact HR
  iintro HO
  iapply (Rounds.wp_signal 𝒱₀ ER (sched m ρ) (c : Thread nD τ) none (dst := (yn c : Thread nD τ)) (κ := K (yn c, none))
      (d := true) (by rw [duties_bar]; exact Finset.mem_univ _) ((amount_bar m ρ (yn c) true).trans (by decide)) () (Ow c 0 0) rfl)
    $$ [HO TY HD]
  · isplitr; · iapply (inv_bar m ρ K (yn c)); iexact HR
    isplitl [HO]; · iexact HO
    isplitl [TY]; · iexact TY
    isplitl [HD]; · rw [payload_bar, ← pay_yn]; iexact HD
    iapply (reached_bar m ρ K (yn c)); iexact HR
  iintro HO
  iapply (Rounds.wp_wait_rest_token 𝒱₀ ER (sched m ρ) (c : Thread nD τ) none (κ := K (c, none))
      (wpE_semWait_eq 𝒱₀ (c : Thread nD τ) none Set.univ) (Set.mem_univ _) () (O := Ow c 0 0) (W := W) (R := 0) (m := 0) (T := ∅)
      (by rw [expect_bar]; decide)) $$ [Cb HO Pb]
  · isplitr; · iapply (inv_bar m ρ K c); iexact HR
    isplitl [Cb]; · iexact Cb
    isplitl [HO]; · iexact HO
    isplitr; · iapply (mayWait_bar c 0 0); iexact Hl
    iexact Pb
  iintro ⟨HO, Pb, -, Hpay⟩
  ihave Hp := (Entails.of_eq (rest_bar m ρ c)) $$ Hpay
  icases Hp with ⟨HX, HD⟩
  iapply (wp_load 𝒱₀ (c : Thread nD τ) none Set.univ (m := xM) (Finset.subset_univ _)) $$ Hx; iintro Hx
  iapply hk; unfold St
  rw [own_start, oth_start, nbr_start, dia_start]
  isplitr; · iexact HR
  isplitr; · iexact Hl
  isplitl [Hc T0 T1 HX P0]
  · isplitl [Hc]; · iexact Hc
    isplitr [P0]
    · isplitl [T0]; · iexact T0
      isplitl [T1]; · iexact T1
      iapply (Entails.of_eq (pay_got c)); iexact HX
    iexact P0
  isplitl [Hy]; · iexact Hy
  isplitl [C1 T2 T3 HD P1 P2]
  · isplitl [C1]; · iexact C1
    isplitr [P1 P2]
    · isplitl [T2]; · iexact T2
      isplitl [T3]; · iexact T3
      iapply (Entails.of_eq (pay_got' c)); iexact HD
    isplitl [P1] <;> iassumption
  isplitl [C3 P3]
  · isplitl [C3] <;> iassumption
  isplitl [HO]; · iexists _; iexact HO
  isplitl [Hx]; · iexact Hx
  isplitl [Hw]; · iexact Hw
  iexact Pb

/-! ## The end -/

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The eight cells of a family close. -/
theorem close_fam (c : Dev nD) (j : Fin 4) :
    iprop(records m ρ K ∗ posAt c j 1) ⊢ |={Set.univ}=> (bigSep Finset.univ fun k : Fin 8 => semVal (dCell c j k) 0 : sProp 𝕄) :=
  (bigSep_with fun k _ => by
    iintro ⟨#HR, Hat⟩
    iapply (Rounds.cell_close ER (sched m ρ) (Set.mem_univ (K (c, some (j, k)))) (fun h => h) (R := 0 + 1) (duties_later m ρ (dCell c j k)))
    isplitr; · iapply (inv_dma m ρ K c j k); iexact HR
    iexact Hat).trans (bigSep_fupd _ _)

/-- All the semaphores that the kernel used are at zero again. -/
def sems0 (c : Dev nD) : sProp 𝕄 :=
  iprop((bigSep Finset.univ fun j : Fin 4 => bigSep Finset.univ fun k : Fin 8 => semVal (dCell c j k) 0) ∗ semVal (barCell c) 0)

theorem hz : (![0, 0] : Fin 2 → Nat) = fun _ => 0 := funext fun a => by fin_cases a <;> rfl

theorem finish (c : Dev nD) {Q : PUnit → sProp 𝕄} {w : Out F → Out F}
    {i1 i2 i3 : ∀ a, (![0, 0] : Fin 2 → Nat) a + S256x8192.size a ≤ S256x8192.size a}
    {l1 : (oM : Memref sig .tc .vmem S256x8192 .f32).view.LoadsAt (Rect.unit (s := S256x8192) ![0, 0] S256x8192.size i1).toLoadRect}
    {l2 : (oM : Memref sig .tc .vmem S256x8192 .f32).view.LoadsAt (Rect.unit (s := S256x8192) ![0, 0] S256x8192.size i2).toLoadRect}
    {hx : ((oM : Memref sig .tc .vmem S256x8192 .f32).access (Rect.unit (s := S256x8192) ![0, 0] S256x8192.size i3)).Stores Finset.univ}
    {hm : (Finset.univ : Finset (Rect.unit (s := S256x8192) ![0, 0] S256x8192.size i3).shape.Idx) = Finset.univ
      ∨ ∀ a, (Rect.unit (s := S256x8192) ![0, 0] S256x8192.size i3).stride a = 1}
    (hQ : iprop(sems0 c ∗ owesAny c 0 ∗ xPts m ρ c ∗ wPts m ρ c ∗ oPts c (w (E m ρ c))) ⊢ Q ⟨⟩) :
    St m ρ K c 8 8 8 8 8 8 8 8
      ⊢ wp frame (wpE (defs₀ (F := F)) 𝒱₀ (c : Thread nD τ) none) Set.univ
        (.op (.load (oM : Memref sig .tc .vmem S256x8192 .f32) (Rect.unit (s := S256x8192) ![0, 0] S256x8192.size i1).toLoadRect l1) fun v =>
         .op (.load (oM : Memref sig .tc .vmem S256x8192 .f32) (Rect.unit (s := S256x8192) ![0, 0] S256x8192.size i2).toLoadRect l2) fun _ =>
         .op (.store (oM : Memref sig .tc .vmem S256x8192 .f32) (Rect.unit (s := S256x8192) ![0, 0] S256x8192.size i3) (w v) Finset.univ hx hm) fun _ =>
         .ret ⟨⟩) Q := by
  have hread : (oM : Memref sig .tc .vmem S256x8192 .f32).view.readAt (Elt F) (Rect.unit (s := S256x8192) ![0, 0] S256x8192.size i1).toLoadRect (E m ρ c) = E m ρ c :=
    Memref.readAt_unit_zero (Elt F) cc0_stg2_0 hz _ _
  have hwrite : ∀ v : Out F, ((oM : Memref sig .tc .vmem S256x8192 .f32).access (Rect.unit (s := S256x8192) ![0, 0] S256x8192.size i3) : View sig .tc _ _ _).write (Elt F) (E m ρ c) v Finset.univ = v :=
    fun v => Memref.write_access_unit_zero_univ (Elt F) cc0_stg2_0 hz _ _ v
  unfold St
  rw [own_end, oth_end, nbr_end, dia_end, Ow_end]
  iintro ⟨#HR, #Hl, ⟨E0, P0⟩, E1, ⟨E2, P1, P2⟩, ⟨E3, P3⟩, HO, Hx, Hw, Pb⟩
  ihave Ho := (Entails.of_eq (out_glue m ρ c)) $$ [E0 E1 E2 E3]
  · isplitl [E0]; · iexact E0
    isplitl [E1]; · iexact E1
    isplitl [E2] <;> iassumption
  imod (close_fam m ρ K c 0) $$ [P0] with Z0
  · isplitr; · iexact HR
    iexact P0
  imod (close_fam m ρ K c 1) $$ [P1] with Z1
  · isplitr; · iexact HR
    iexact P1
  imod (close_fam m ρ K c 2) $$ [P2] with Z2
  · isplitr; · iexact HR
    iexact P2
  imod (close_fam m ρ K c 3) $$ [P3] with Z3
  · isplitr; · iexact HR
    iexact P3
  imod (Rounds.cell_close ER (sched m ρ) (Set.mem_univ (K (c, none))) (fun h => h) (R := 0 + 1) (duties_later m ρ (barCell c))) $$ [Pb] with Zb
  · isplitr; · iapply (inv_bar m ρ K c); iexact HR
    iexact Pb
  iapply (wp_load 𝒱₀ (c : Thread nD τ) none Set.univ (m := oM) (Finset.subset_univ _)) $$ Ho; iintro Ho
  rw [hread]
  iapply (wp_load 𝒱₀ (c : Thread nD τ) none Set.univ (m := oM) (Finset.subset_univ _)) $$ Ho; iintro Ho
  iapply (wp_store 𝒱₀ (c : Thread nD τ) none Set.univ (m := oM) (r := Rect.unit (s := S256x8192) ![0, 0] S256x8192.size i3) (Mk := Finset.univ) (Finset.subset_univ _)) $$ Ho; iintro Ho
  rw [hwrite, wp_ret]; imodintro
  iapply hQ
  unfold sems0
  rw [bigSep_fam]
  isplitl [Z0 Z1 Z2 Z3 Zb]
  · isplitr [Zb]
    · isplitl [Z0]; · iexact Z0
      isplitl [Z1]; · iexact Z1
      isplitl [Z2] <;> iassumption
    iexact Zb
  isplitl [HO]; · iexact HO
  isplitl [Hx]; · iexact Hx
  isplitl [Hw]; · iexact Hw
  iexact Ho

end Cert.KernelIdealProof

end
-- ==== Proof.KernelIdeal.Body.lean ====
/-
# The body

The body at a symbolic device `c`, one step lemma per operation in program order, from the handshake to the last store.
What it leaves in the staging buffer is `outAt c`: the exponentials `E c` divided by the row sums, which are added up
chunk by chunk in the order of the four loops.
-/
module

public import proofs.«01_k».proof.Proof.KernelIdeal.Ends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 8) → ℕ)

/-! ## Where the accesses lie -/

theorem off1_eq (c : Dev nD) (k : Fin 8) : k0_off1 c (BitVec.ofNat 32 (256 * k.val)) = wOff c k := k0_off1_eq c k
theorem off2_eq (c : Dev nD) (k : Fin 8) : k0_off2 c (BitVec.ofNat 32 (256 * k.val)) = colOff c k := by revert c k; decide +kernel
theorem off3_eq (c : Dev nD) (k : Fin 8) : k0_off3 c (BitVec.ofNat 32 (256 * k.val)) = colOff c k := by revert c k; decide +kernel
theorem off4_eq (c : Dev nD) (k : Fin 8) : k0_off4 c (BitVec.ofNat 32 (256 * k.val)) = wOff (yn c) k := by revert c k; decide +kernel
theorem off5_eq (c : Dev nD) (k : Fin 8) : k0_off5 c (BitVec.ofNat 32 (256 * k.val)) = colOff (yn c) k := by revert c k; decide +kernel
theorem off6_eq (c : Dev nD) (k : Fin 8) : k0_off6 c (BitVec.ofNat 32 (256 * k.val)) = colOff (xn c) k := by revert c k; decide +kernel
theorem off7_eq (c : Dev nD) (k : Fin 8) : k0_off7 c (BitVec.ofNat 32 (256 * k.val)) = colOff (xn c) k := by revert c k; decide +kernel
theorem off9_eq (c : Dev nD) (k : Fin 8) : k0_off9 c (BitVec.ofNat 32 (256 * k.val)) = colOff (dg c) k := by revert c k; decide +kernel

/-! ## What it computes -/

/-- A column of row sums with the row sums of one more chunk added. -/
def acc (s : FVec F S256x1 .f32) (e : FVec F S256x256 .f32) : FVec F S256x1 .f32 :=
  addf s (shapeCast S256x1 (multiReduction .add [1] S256 e 0x00000000#32 reduces_S256x256_S256 (.inl rfl) rfl) shapeCasts_S256_S256x1)
/-- The same for a chunk read back from the staging buffer. -/
def accL (s : FVec F S256x1 .f32) (e : Vec F S256x256 .f32) : FVec F S256x1 .f32 := acc s (shapeCast S256x256 e shapeCasts_S256x256_S256x256)

/-- The sums over eight chunks. -/
def accs (s : FVec F S256x1 .f32) (e : Fin 8 → FVec F S256x256 .f32) : FVec F S256x1 .f32 :=
  acc (acc (acc (acc (acc (acc (acc (acc s (e 0)) (e 1)) (e 2)) (e 3)) (e 4)) (e 5)) (e 6)) (e 7)
def accsL (s : FVec F S256x1 .f32) (e : Fin 8 → FVec F S256x256 .f32) : FVec F S256x1 .f32 :=
  accL (accL (accL (accL (accL (accL (accL (accL s (e 0)) (e 1)) (e 2)) (e 3)) (e 4)) (e 5)) (e 6)) (e 7)

/-- The row sums over the two quadrants computed here, and over the two that arrive. -/
def sLoc (c : Dev nD) : FVec F S256x1 .f32 := accs (accs k0_pay3 (chunk m ρ c c)) (chunk m ρ c (yn c))
def sNbr (c : Dev nD) : FVec F S256x1 .f32 := accsL (accsL k0_pay3 (chunk m ρ (xn c) (xn c))) (chunk m ρ (dg c) (dg c))

/-- The kernel's result on device `c`. -/
def outAt (c : Dev nD) : Out F := k0_pay1 (sLoc m ρ c) (sNbr m ρ c) (E m ρ c)

/-! ## The run of the body -/

set_option maxRecDepth 20000 in
set_option maxHeartbeats 1000000 in
theorem sound_body (c : Dev nD) (f : Out F) (Q : PUnit → sProp 𝕄)
    (hQ : iprop(sems0 c ∗ owesAny c 0 ∗ xPts m ρ c ∗ wPts m ρ c ∗ oPts c (outAt m ρ c)) ⊢ Q ⟨⟩) :
    iprop((records m ρ K ∗ poss c ∗ payToks c) ∗ (creds c ∗ levAts L lv) ∗ owesAny c (O₀ c) ∗ xPts m ρ c ∗ wPts m ρ c ∗ oPts c f)
      ⊢ wp frame (wpE (defs₀ (F := F)) 𝒱₀ (c : Thread nD τ) none) Set.univ
        (cc0_body (F := F) xM (Memref.isWhole_whole _) wM (Memref.isWhole_whole _) oM (Memref.isWhole_whole _) cc0_scratch0 cc0_scratch1 cc0_scratch2 cc0_scratch3) Q := by
  simp only [cc0_body_eq_skeleton, cc0_body_skel,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel, k0_part21_eq_skeleton, k0_part21_skel,
    semSignalWord, semWaitWord, Prog.lift, Prog.bind_op, Prog.bind_ret, Prog.pure_eq_ret, wp_deviceId]
  refine enter m ρ K c f (by exact dev_eq (k0_dev1_eq c)) (by exact dev_eq (k0_dev2_eq c)) ?_
  refine step_w m ρ K c c 0 (by exact off1_eq c 0) ?_
  refine step_dead_own m ρ K c 0 (by decide) (by decide) (by exact off2_eq c 0) fun _ => ?_
  refine step_store_own m ρ K c 0 (by decide) (by decide) (by exact off2_eq c 0) (by rfl) ?_
  refine step_send m ρ K c 0 (by decide) (by decide) (by exact dev_eq (k0_dev3_eq c)) (by rfl) (by rfl) (by exact off3_eq c 0) (by exact off3_eq c 0) ?_
  refine step_w m ρ K c c 1 (by exact off1_eq c 1) ?_
  refine step_dead_own m ρ K c 1 (by decide) (by decide) (by exact off2_eq c 1) fun _ => ?_
  refine step_store_own m ρ K c 1 (by decide) (by decide) (by exact off2_eq c 1) (by rfl) ?_
  refine step_send m ρ K c 1 (by decide) (by decide) (by exact dev_eq (k0_dev4_eq c)) (by rfl) (by rfl) (by exact off3_eq c 1) (by exact off3_eq c 1) ?_
  refine step_w m ρ K c c 2 (by exact off1_eq c 2) ?_
  refine step_dead_own m ρ K c 2 (by decide) (by decide) (by exact off2_eq c 2) fun _ => ?_
  refine step_store_own m ρ K c 2 (by decide) (by decide) (by exact off2_eq c 2) (by rfl) ?_
  refine step_send m ρ K c 2 (by decide) (by decide) (by exact dev_eq (k0_dev5_eq c)) (by rfl) (by rfl) (by exact off3_eq c 2) (by exact off3_eq c 2) ?_
  refine step_w m ρ K c c 3 (by exact off1_eq c 3) ?_
  refine step_dead_own m ρ K c 3 (by decide) (by decide) (by exact off2_eq c 3) fun _ => ?_
  refine step_store_own m ρ K c 3 (by decide) (by decide) (by exact off2_eq c 3) (by rfl) ?_
  refine step_send m ρ K c 3 (by decide) (by decide) (by exact dev_eq (k0_dev6_eq c)) (by rfl) (by rfl) (by exact off3_eq c 3) (by exact off3_eq c 3) ?_
  refine step_w m ρ K c c 4 (by exact off1_eq c 4) ?_
  refine step_dead_own m ρ K c 4 (by decide) (by decide) (by exact off2_eq c 4) fun _ => ?_
  refine step_store_own m ρ K c 4 (by decide) (by decide) (by exact off2_eq c 4) (by rfl) ?_
  refine step_send m ρ K c 4 (by decide) (by decide) (by exact dev_eq (k0_dev7_eq c)) (by rfl) (by rfl) (by exact off3_eq c 4) (by exact off3_eq c 4) ?_
  refine step_w m ρ K c c 5 (by exact off1_eq c 5) ?_
  refine step_dead_own m ρ K c 5 (by decide) (by decide) (by exact off2_eq c 5) fun _ => ?_
  refine step_store_own m ρ K c 5 (by decide) (by decide) (by exact off2_eq c 5) (by rfl) ?_
  refine step_send m ρ K c 5 (by decide) (by decide) (by exact dev_eq (k0_dev8_eq c)) (by rfl) (by rfl) (by exact off3_eq c 5) (by exact off3_eq c 5) ?_
  refine step_w m ρ K c c 6 (by exact off1_eq c 6) ?_
  refine step_dead_own m ρ K c 6 (by decide) (by decide) (by exact off2_eq c 6) fun _ => ?_
  refine step_store_own m ρ K c 6 (by decide) (by decide) (by exact off2_eq c 6) (by rfl) ?_
  refine step_send m ρ K c 6 (by decide) (by decide) (by exact dev_eq (k0_dev9_eq c)) (by rfl) (by rfl) (by exact off3_eq c 6) (by exact off3_eq c 6) ?_
  refine step_w m ρ K c c 7 (by exact off1_eq c 7) ?_
  refine step_dead_own m ρ K c 7 (by decide) (by decide) (by exact off2_eq c 7) fun _ => ?_
  refine step_store_own m ρ K c 7 (by decide) (by decide) (by exact off2_eq c 7) (by rfl) ?_
  refine step_send m ρ K c 7 (by decide) (by decide) (by exact dev_eq (k0_dev10_eq c)) (by rfl) (by rfl) (by exact off3_eq c 7) (by exact off3_eq c 7) ?_
  refine step_w m ρ K c (yn c) 0 (by exact off4_eq c 0) ?_
  refine step_dead_oth m ρ K c 0 (by exact off5_eq c 0) fun _ => ?_
  refine step_store_oth m ρ K c 0 (by exact off5_eq c 0) (by rfl) ?_
  refine step_w m ρ K c (yn c) 1 (by exact off4_eq c 1) ?_
  refine step_dead_oth m ρ K c 1 (by exact off5_eq c 1) fun _ => ?_
  refine step_store_oth m ρ K c 1 (by exact off5_eq c 1) (by rfl) ?_
  refine step_w m ρ K c (yn c) 2 (by exact off4_eq c 2) ?_
  refine step_dead_oth m ρ K c 2 (by exact off5_eq c 2) fun _ => ?_
  refine step_store_oth m ρ K c 2 (by exact off5_eq c 2) (by rfl) ?_
  refine step_w m ρ K c (yn c) 3 (by exact off4_eq c 3) ?_
  refine step_dead_oth m ρ K c 3 (by exact off5_eq c 3) fun _ => ?_
  refine step_store_oth m ρ K c 3 (by exact off5_eq c 3) (by rfl) ?_
  refine step_w m ρ K c (yn c) 4 (by exact off4_eq c 4) ?_
  refine step_dead_oth m ρ K c 4 (by exact off5_eq c 4) fun _ => ?_
  refine step_store_oth m ρ K c 4 (by exact off5_eq c 4) (by rfl) ?_
  refine step_w m ρ K c (yn c) 5 (by exact off4_eq c 5) ?_
  refine step_dead_oth m ρ K c 5 (by exact off5_eq c 5) fun _ => ?_
  refine step_store_oth m ρ K c 5 (by exact off5_eq c 5) (by rfl) ?_
  refine step_w m ρ K c (yn c) 6 (by exact off4_eq c 6) ?_
  refine step_dead_oth m ρ K c 6 (by exact off5_eq c 6) fun _ => ?_
  refine step_store_oth m ρ K c 6 (by exact off5_eq c 6) (by rfl) ?_
  refine step_w m ρ K c (yn c) 7 (by exact off4_eq c 7) ?_
  refine step_dead_oth m ρ K c 7 (by exact off5_eq c 7) fun _ => ?_
  refine step_store_oth m ρ K c 7 (by exact off5_eq c 7) (by rfl) ?_
  refine step_recv m ρ K c 0 (by decide) (by decide) (by rfl) ?_
  refine step_fwd m ρ K c 0 (by decide) (by decide) (by exact dev_eq (k0_dev11_eq c)) (by rfl) (by rfl) (by exact off6_eq c 0) (by exact off6_eq c 0) ?_
  refine step_load_nbr m ρ K c 0 (by decide) (by decide) (by exact off7_eq c 0) ?_
  refine step_recv m ρ K c 1 (by decide) (by decide) (by rfl) ?_
  refine step_fwd m ρ K c 1 (by decide) (by decide) (by exact dev_eq (k0_dev12_eq c)) (by rfl) (by rfl) (by exact off6_eq c 1) (by exact off6_eq c 1) ?_
  refine step_load_nbr m ρ K c 1 (by decide) (by decide) (by exact off7_eq c 1) ?_
  refine step_recv m ρ K c 2 (by decide) (by decide) (by rfl) ?_
  refine step_fwd m ρ K c 2 (by decide) (by decide) (by exact dev_eq (k0_dev13_eq c)) (by rfl) (by rfl) (by exact off6_eq c 2) (by exact off6_eq c 2) ?_
  refine step_load_nbr m ρ K c 2 (by decide) (by decide) (by exact off7_eq c 2) ?_
  refine step_recv m ρ K c 3 (by decide) (by decide) (by rfl) ?_
  refine step_fwd m ρ K c 3 (by decide) (by decide) (by exact dev_eq (k0_dev14_eq c)) (by rfl) (by rfl) (by exact off6_eq c 3) (by exact off6_eq c 3) ?_
  refine step_load_nbr m ρ K c 3 (by decide) (by decide) (by exact off7_eq c 3) ?_
  refine step_recv m ρ K c 4 (by decide) (by decide) (by rfl) ?_
  refine step_fwd m ρ K c 4 (by decide) (by decide) (by exact dev_eq (k0_dev15_eq c)) (by rfl) (by rfl) (by exact off6_eq c 4) (by exact off6_eq c 4) ?_
  refine step_load_nbr m ρ K c 4 (by decide) (by decide) (by exact off7_eq c 4) ?_
  refine step_recv m ρ K c 5 (by decide) (by decide) (by rfl) ?_
  refine step_fwd m ρ K c 5 (by decide) (by decide) (by exact dev_eq (k0_dev16_eq c)) (by rfl) (by rfl) (by exact off6_eq c 5) (by exact off6_eq c 5) ?_
  refine step_load_nbr m ρ K c 5 (by decide) (by decide) (by exact off7_eq c 5) ?_
  refine step_recv m ρ K c 6 (by decide) (by decide) (by rfl) ?_
  refine step_fwd m ρ K c 6 (by decide) (by decide) (by exact dev_eq (k0_dev17_eq c)) (by rfl) (by rfl) (by exact off6_eq c 6) (by exact off6_eq c 6) ?_
  refine step_load_nbr m ρ K c 6 (by decide) (by decide) (by exact off7_eq c 6) ?_
  refine step_recv m ρ K c 7 (by decide) (by decide) (by rfl) ?_
  refine step_fwd m ρ K c 7 (by decide) (by decide) (by exact dev_eq (k0_dev18_eq c)) (by rfl) (by rfl) (by exact off6_eq c 7) (by exact off6_eq c 7) ?_
  refine step_load_nbr m ρ K c 7 (by decide) (by decide) (by exact off7_eq c 7) ?_
  refine step_recv_dia m ρ K c 0 (by rfl) ?_
  refine step_load_dia m ρ K c 0 (by decide) (by exact off9_eq c 0) ?_
  refine step_recv_dia m ρ K c 1 (by rfl) ?_
  refine step_load_dia m ρ K c 1 (by decide) (by exact off9_eq c 1) ?_
  refine step_recv_dia m ρ K c 2 (by rfl) ?_
  refine step_load_dia m ρ K c 2 (by decide) (by exact off9_eq c 2) ?_
  refine step_recv_dia m ρ K c 3 (by rfl) ?_
  refine step_load_dia m ρ K c 3 (by decide) (by exact off9_eq c 3) ?_
  refine step_recv_dia m ρ K c 4 (by rfl) ?_
  refine step_load_dia m ρ K c 4 (by decide) (by exact off9_eq c 4) ?_
  refine step_recv_dia m ρ K c 5 (by rfl) ?_
  refine step_load_dia m ρ K c 5 (by decide) (by exact off9_eq c 5) ?_
  refine step_recv_dia m ρ K c 6 (by rfl) ?_
  refine step_load_dia m ρ K c 6 (by decide) (by exact off9_eq c 6) ?_
  refine step_recv_dia m ρ K c 7 (by rfl) ?_
  refine step_load_dia m ρ K c 7 (by decide) (by exact off9_eq c 7) ?_
  refine step_wait_send m ρ K c 0 (by rfl) ?_
  refine step_wait_send m ρ K c 1 (by rfl) ?_
  refine step_wait_send m ρ K c 2 (by rfl) ?_
  refine step_wait_send m ρ K c 3 (by rfl) ?_
  refine step_wait_send m ρ K c 4 (by rfl) ?_
  refine step_wait_send m ρ K c 5 (by rfl) ?_
  refine step_wait_send m ρ K c 6 (by rfl) ?_
  refine step_wait_send m ρ K c 7 (by rfl) ?_
  refine step_wait_fwd m ρ K c 0 (by rfl) ?_
  refine step_wait_fwd m ρ K c 1 (by rfl) ?_
  refine step_wait_fwd m ρ K c 2 (by rfl) ?_
  refine step_wait_fwd m ρ K c 3 (by rfl) ?_
  refine step_wait_fwd m ρ K c 4 (by rfl) ?_
  refine step_wait_fwd m ρ K c 5 (by rfl) ?_
  refine step_wait_fwd m ρ K c 6 (by rfl) ?_
  refine step_wait_fwd m ρ K c 7 (by rfl) ?_
  exact finish m ρ K c (w := fun v => k0_pay1 (sLoc m ρ c) (sNbr m ρ c) v) hQ

end Cert.KernelIdealProof

end
-- ==== Proof.KernelIdeal.Launch.lean ====
/-
# The launch: what each device is dealt

Every cell is opened at round 0 by the device that owns it. A duty token goes to the device that pays the duty: a barrier's
token `false` and the landings from `xn c` to the neighbour over `x`, a barrier's token `true` and the landings from `yn c`
to the neighbour over `y`, the tokens of a send cell stay. The launch's credit gives each device the two units of its
barrier and a chunk's units for each of its landings.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem kcell_injective : Function.Injective (kcell : Dev nD × Option (Fin 4 × Fin 8) → GSem nD τ sig) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- The duty tokens of one device's cells: the barrier's duty `true`, and every cell's duty `false`. -/
def tokOf : Dev nD × Option (Option (Fin 4 × Fin 8)) → GSem nD τ sig × ℕ × Bool
  | (c, none) => (barCell c, 0, true)
  | (c, some o) => (kcell (c, o), 0, false)

theorem tokOf_injective : Function.Injective tokOf := by
  rintro ⟨c, _ | o⟩ ⟨c', _ | o'⟩ h
  · have h1 : c = c' := congrArg (fun x : GSem nD τ sig × ℕ × Bool => x.1.1.1) h
    rw [h1]
  · exact absurd (congrArg (fun x : GSem nD τ sig × ℕ × Bool => x.2.2) h) (by decide : (true : Bool) ≠ false)
  · exact absurd (congrArg (fun x : GSem nD τ sig × ℕ × Bool => x.2.2) h) (by decide : (false : Bool) ≠ true)
  · have := kcell_injective (congrArg Prod.fst h)
    rw [Prod.mk.injEq] at this
    rw [this.1, this.2]

def tokens : Finset (GSem nD τ sig × ℕ × Bool) := Finset.univ.map ⟨tokOf, tokOf_injective⟩

/-- The launch's element of the ghost state. -/
def u₀ : UU := (initOf (Pipeline.cells cfgs cellOf_inj) (Pipeline.launchToks cfgs cellOf_inj), initOf cells tokens)

omit [FloatOps F] in
theorem bigSep_opt {I : Type} [Fintype I] [DecidableEq I] (Φ : Option I → sProp 𝕄) :
    bigSep Finset.univ Φ = iprop(Φ none ∗ bigSep Finset.univ fun i => Φ (some i)) := by
  have h : (Finset.univ : Finset (Option I)).erase none = Finset.univ.map Function.Embedding.some := by
    ext o; cases o <;> simp
  rw [bigSep_univ_at Φ none, h, bigSep_map]; rfl

omit [FloatOps F] in
/-- A star over a device's cells: the barrier's summand and the four families'. -/
theorem bigSep_cells (Φ : Option (Fin 4 × Fin 8) → sProp 𝕄) :
    bigSep Finset.univ Φ = iprop(Φ none ∗ bigSep Finset.univ fun j : Fin 4 => bigSep Finset.univ fun k : Fin 8 => Φ (some (j, k))) := by
  rw [bigSep_opt, bigSep_univ_prod]

/-- The duty tokens of device `c`'s own cells. -/
def toks (c : Dev nD) : sProp 𝕄 :=
  iprop(dutyTok ER (barCell c) 0 true ∗ dutyTok ER (barCell c) 0 false ∗ toksAt c 0 ∗ toksAt c 1 ∗ toksAt c 2 ∗ toksAt c 3)

/-- What the launch element deals device `c`. -/
def G (c : Dev nD) : sProp 𝕄 :=
  iprop((bigSep Finset.univ fun k => roundState ER (sched m ρ) (kcell (c, k)) 0)
    ∗ (bigSep Finset.univ fun k => iprop(atPos ER (kcell (c, k)) 0 ∅ 0 ∗ reached ER (kcell (c, k)) 0)) ∗ toks c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_opt, bigSep_cells, bigSep_fam]; rfl
  iintro HX
  imod (Rounds.fund ER (sched m ρ) cells tokens) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem ownSemFacts : Pipeline.OwnSemFacts cfg0.spec osem :=
  ⟨by decide, fun a b h => Option.some.inj (csem_injective (a₁ := some a) (a₂ := some b) h), by decide⟩

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 4 => bigSep Finset.univ fun k : Fin 8 => semVal (dCell c j k) 0 := by
  unfold Pipeline.ownSems0; rw [bigSep_univ_prod]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_cells]
  iintro ⟨HS, HB⟩
  isplitl [HB]; · iexact HB
  iexact HS

/-- A device's cells opened. -/
def opened (c : Dev nD) : sProp 𝕄 :=
  iprop((bigSep Finset.univ fun k => iprop(∃ κ : ℕ, cellInv ER (sched m ρ) κ (kcell (c, k))))
    ∗ (bigSep Finset.univ fun k => iprop(atPos ER (kcell (c, k)) 0 ∅ 0 ∗ reached ER (kcell (c, k)) 0)) ∗ toks c)

theorem cells_alloc (c : Dev nD) :
    iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) := by
  rw [← bigSep_sep']
  exact (bigSep_mono fun k _ => (Rounds.body_intro ER (sched m ρ) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> opened m ρ c := by
  unfold G opened
  iintro ⟨Hos, Hus, Hst, Hat, Htok⟩
  ihave Hv := (sems0_eq (F := F) c) $$ [Hos Hus]
  · isplitl [Hos] <;> iassumption
  imod (cells_alloc m ρ c) $$ [Hv Hst] with Hinv
  · isplitl [Hv] <;> iassumption
  imodintro
  isplitl [Hinv]; · iexact Hinv
  isplitl [Hat]; · iexact Hat
  iexact Htok

omit [FloatOps F] in
/-- The tokens dealt to the devices that pay. -/
theorem toks_around : (bigSep Finset.univ fun c : Dev nD => (toks c : sProp 𝕄)) ⊢ bigSep Finset.univ fun c : Dev nD => payToks c := by
  unfold toks payToks
  simp only [bigSep_sep']
  rw [bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (toksAt c 1 : sProp 𝕄)),
    bigSep_univ_equiv yswap (fun c : Dev nD => (toksAt c 3 : sProp 𝕄))]
  iintro ⟨H1, H2, H3, H4, H5, H6⟩
  isplitl [H2]; · iexact H2
  isplitl [H1]; · iexact H1
  isplitl [H3]; · iexact H3
  isplitl [H4]; · iexact H4
  isplitl [H5]; · iexact H5
  iexact H6

omit [FloatOps F] in
theorem poss_eq (c : Dev nD) : (bigSep Finset.univ fun k => (atPos ER (kcell (c, k)) 0 ∅ 0 : sProp 𝕄)) = poss c := by
  unfold poss; rw [bigSep_cells, bigSep_fam]; rfl

theorem ghost_intro (K : Dev nD × Option (Fin 4 × Fin 8) → ℕ) (c : Dev nD) : iprop(records m ρ K ∗ poss c ∗ payToks c) ⊢ ghost m ρ c := by
  unfold ghost; iintro H; iexists K; iexact H

theorem regroup : (bigSep Finset.univ (opened m ρ) : sProp 𝕄) ⊢ bigSep Finset.univ (ghost m ρ) := by
  have e : (bigSep Finset.univ (opened m ρ) : sProp 𝕄)
      = iprop((bigSep Finset.univ fun ck => iprop(∃ κ : ℕ, cellInv ER (sched m ρ) κ (kcell ck)))
        ∗ ((bigSep Finset.univ fun c : Dev nD => poss c) ∗ bigSep Finset.univ fun ck => reached ER (kcell ck) 0)
        ∗ bigSep Finset.univ fun c : Dev nD => toks c) := by
    unfold opened
    simp only [bigSep_sep', poss_eq]
    rw [bigSep_univ_prod, bigSep_univ_prod]
  rw [e]
  iintro ⟨HI, ⟨Hat, #HR⟩, Htok⟩
  ihave HK := (BI.bigSep_exists_pi Finset.univ (fun ck (κ : ℕ) => (cellInv ER (sched m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => (poss c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

omit [FloatOps F] in
theorem bar_eq_iff {a b : Dev nD} : barCell a = barCell b ↔ a = b :=
  ⟨fun h => congrArg (fun g : GSem nD τ sig => g.1.1) h, fun h => h ▸ rfl⟩
omit [FloatOps F] in
theorem dCell_eq_iff {a b : Dev nD} {i j : Fin 4} {k l : Fin 8} : dCell a i k = dCell b j l ↔ a = b ∧ i = j ∧ k = l :=
  ⟨fun h => ⟨congrArg (fun g : GSem nD τ sig => g.1.1) h, dS_inj (SemLoc.dma.inj (congrArg Prod.snd h))⟩, by rintro ⟨rfl, rfl, rfl⟩; rfl⟩
omit [FloatOps F] in
theorem dCell_ne_bar {a b : Dev nD} {i : Fin 4} {k : Fin 8} : dCell a i k ≠ barCell b := fun h => by
  have := congrArg Prod.snd h; cases this

omit [FloatOps F] in
theorem xn_eq_iff {a b : Dev nD} : a = xn b ↔ b = xn a := ⟨fun h => by rw [h, xn_xn], fun h => by rw [h, xn_xn]⟩
omit [FloatOps F] in
theorem yn_eq_iff {a b : Dev nD} : a = yn b ↔ b = yn a := ⟨fun h => by rw [h, yn_yn], fun h => by rw [h, yn_yn]⟩

omit [FloatOps F] in
/-- A chunk's landing is owed by the device that sends it, once. -/
theorem owedFrom_at (n c : Dev nD) (j j' : Fin 4) (k : Fin 8) :
    owedFrom n j 0 (dCell c j' k) () = if c = n ∧ j' = j then N else 0 := by
  unfold owedFrom
  rw [Finset.filter_true_of_mem fun _ _ => Nat.zero_le _, Finset.sum_apply, Finsupp.finset_sum_apply]
  simp only [tallyAt_apply, dCell_eq_iff, and_true]
  by_cases h : c = n ∧ j' = j
  · rw [if_pos h]; simp only [h.1, h.2, true_and]; rw [Finset.sum_ite_eq Finset.univ k fun _ => N, if_pos (Finset.mem_univ _)]
  · rw [if_neg h]; exact Finset.sum_eq_zero fun x _ => if_neg fun h' => h ⟨h'.1, h'.2.1⟩
omit [FloatOps F] in
theorem owedFrom_bar (n c : Dev nD) (j : Fin 4) : owedFrom n j 0 (barCell c) () = 0 := by
  rcases Nat.eq_zero_or_pos (owedFrom n j 0 (barCell c) ()) with h | h
  · exact h
  · obtain ⟨k, hk⟩ := owedFrom_pos h; exact absurd hk.symm dCell_ne_bar

omit [FloatOps F] in
theorem O₀_at (d c : Dev nD) (g : SemLoc sig) : O₀ d ((c : Thread nD τ), g) ()
    = owedFrom (yn d) 3 0 ((c : Thread nD τ), g) () + owedFrom (xn d) 1 0 ((c : Thread nD τ), g) ()
      + tallyAt (barCell (yn d)) () 1 ((c : Thread nD τ), g) () + tallyAt (barCell (xn d)) () 1 ((c : Thread nD τ), g) () := rfl

omit [FloatOps F] in
theorem launch_bar (c : Dev nD) :
    tallyOn (barCell c) (launchCredit (Pipeline.owing O₀) 0 (barCell c)) = (tallyAt (barCell c) () 2 : CellTallies nD τ sig Unit) := by
  have h (d : Dev nD) : O₀ d (barCell c) () = (if d = yn c then 1 else 0) + (if d = xn c then 1 else 0) := by
    rw [O₀_at, owedFrom_bar, owedFrom_bar, tallyAt_apply, tallyAt_apply]
    simp only [bar_eq_iff, and_true, Nat.zero_add, xn_eq_iff (a := c), yn_eq_iff (a := c)]
  unfold tallyAt; refine congrArg _ (Finsupp.ext fun u => ?_); cases u
  rw [Pipeline.launchCredit_owing, Finsupp.single_eq_same, Finset.sum_congr rfl fun d _ => h d, Finset.sum_add_distrib,
    Finset.sum_ite_eq' Finset.univ (yn c) fun _ => 1, Finset.sum_ite_eq' Finset.univ (xn c) fun _ => 1, if_pos (Finset.mem_univ _), if_pos (Finset.mem_univ _)]

omit [FloatOps F] in
theorem launch_x (c : Dev nD) (k : Fin 8) :
    tallyOn (dCell c 1 k) (launchCredit (Pipeline.owing O₀) 0 (dCell c 1 k)) = (tallyAt (dCell c 1 k) () N : CellTallies nD τ sig Unit) := by
  have h (d : Dev nD) : O₀ d (dCell c 1 k) () = if d = xn c then N else 0 := by
    rw [O₀_at, owedFrom_at, owedFrom_at, tallyAt_ne_cell dCell_ne_bar, tallyAt_ne_cell dCell_ne_bar, if_neg (by rintro ⟨-, h⟩; exact absurd h (by decide))]
    simp only [and_true, Nat.zero_add, Nat.add_zero, Finsupp.zero_apply, xn_eq_iff (a := c)]
  unfold tallyAt; refine congrArg _ (Finsupp.ext fun u => ?_); cases u
  rw [Pipeline.launchCredit_owing, Finsupp.single_eq_same, Finset.sum_congr rfl fun d _ => h d, Finset.sum_ite_eq' Finset.univ (xn c) fun _ => N,
    if_pos (Finset.mem_univ _)]

omit [FloatOps F] in
theorem launch_y (c : Dev nD) (k : Fin 8) :
    tallyOn (dCell c 3 k) (launchCredit (Pipeline.owing O₀) 0 (dCell c 3 k)) = (tallyAt (dCell c 3 k) () N : CellTallies nD τ sig Unit) := by
  have h (d : Dev nD) : O₀ d (dCell c 3 k) () = if d = yn c then N else 0 := by
    rw [O₀_at, owedFrom_at, owedFrom_at, tallyAt_ne_cell dCell_ne_bar, tallyAt_ne_cell dCell_ne_bar,
      if_neg (c := c = xn d ∧ _) (by rintro ⟨-, h⟩; exact absurd h (by decide))]
    simp only [and_true, Nat.zero_add, Nat.add_zero, Finsupp.zero_apply, yn_eq_iff (a := c)]
  unfold tallyAt; refine congrArg _ (Finsupp.ext fun u => ?_); cases u
  rw [Pipeline.launchCredit_owing, Finsupp.single_eq_same, Finset.sum_congr rfl fun d _ => h d, Finset.sum_ite_eq' Finset.univ (yn c) fun _ => N,
    if_pos (Finset.mem_univ _)]

omit [FloatOps F] in
theorem creds_intro (c : Dev nD) : (Pipeline.launchCred O₀ c : sProp 𝕄) ⊢ creds c := by
  unfold Pipeline.launchCred
  refine (bigSep_subset (Finset.subset_univ (Finset.univ.map ⟨csem, csem_injective⟩))).trans ?_
  rw [bigSep_map, bigSep_cells, bigSep_fam]
  show iprop(cred (tallyOn (barCell c) (launchCredit (Pipeline.owing O₀) 0 (barCell c)))
    ∗ (bigSep Finset.univ fun k : Fin 8 => cred (tallyOn (dCell c 0 k) (launchCredit (Pipeline.owing O₀) 0 (dCell c 0 k))))
    ∗ (bigSep Finset.univ fun k : Fin 8 => cred (tallyOn (dCell c 1 k) (launchCredit (Pipeline.owing O₀) 0 (dCell c 1 k))))
    ∗ (bigSep Finset.univ fun k : Fin 8 => cred (tallyOn (dCell c 2 k) (launchCredit (Pipeline.owing O₀) 0 (dCell c 2 k))))
    ∗ (bigSep Finset.univ fun k : Fin 8 => cred (tallyOn (dCell c 3 k) (launchCredit (Pipeline.owing O₀) 0 (dCell c 3 k))))) ⊢ creds c
  simp only [launch_bar, launch_x, launch_y]
  unfold creds
  iintro ⟨H1, -, H2, -, H3⟩
  isplitl [H1]; · iexact H1
  isplitl [H2] <;> iassumption

end Cert.KernelIdealProof

end
-- ==== Proof.KernelIdeal.Run.lean ====
/-
# The run of the launch

The body as the pipeline calls it, and the whole launch: every execution ends, with `outAt c` in each device's result
array, the arguments as they were and every semaphore at zero.
-/
module

public import proofs.«01_k».proof.Proof.KernelIdeal.Launch
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline is told -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => outAt m ρ c
  Φ t := match t with
    | ⟨0, _⟩ => start m ρ c
    | ⟨_ + 1, _⟩ => sems0 c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 30000 in
def bodyPre (c : Dev nD) : sProp 𝕄 :=
  iprop(start m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(sems0 c ∗ (dats m ρ 0 c).owesAt () t0_0.succ ∗ stg c cc0_stg0_0 (xs m ρ c) ∗ stg c cc0_stg1_0 (ws m ρ c) ∗ stg c cc0_stg2_0 (outAt m ρ c))

theorem body_post (c : Dev nD) : iprop(sems0 c ∗ owesAny c 0 ∗ xPts m ρ c ∗ wPts m ρ c ∗ oPts c (outAt m ρ c)) ⊢ bodyPost m ρ c := by
  unfold bodyPost Dat.owesAt Pipeline.owesWithin
  rw [show (dats m ρ 0 c).owed t0_0.succ = 0 from rfl]
  iintro ⟨HS, ⟨%W, HO⟩, Hx, Hw, Ho⟩
  isplitl [HS]; · iexact HS
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_run (c : Dev nD) : bodyPre m ρ c ⊢ wp frame (wpE (defs₀ (F := F)) 𝒱₀ (c : Thread nD τ) none) Set.univ
    (cc0_body (F := F) xM (Memref.isWhole_whole _) wM (Memref.isWhole_whole _) oM (Memref.isWhole_whole _) cc0_scratch0 cc0_scratch1 cc0_scratch2 cc0_scratch3)
    (fun _ => bodyPost m ρ c) := by
  unfold bodyPre start ghost
  iintro ⟨⟨⟨%K, Hg⟩, Hc⟩, Ho, ⟨%d0, %g0, %hg0, Hx⟩, ⟨%d1, %g1, %hg1, Hw⟩, ⟨%d2, %g2, %hg2, Hout⟩⟩
  have hx : g0 = xs m ρ c := by rw [hg0]; unfold Dat.before; rw [if_pos (fetch0_0 t0_0)]; rfl
  have hw : g1 = ws m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (sound_body m ρ K c g2 (fun _ => bodyPost m ρ c) (body_post m ρ c))
  isplitl [Hg]; · iexact Hg
  isplitl [Hc]; · iexact Hc
  isplitl [HO]; · iexists W; iexact HO
  isplitl [Hx]; · iexact Hx
  isplitl [Hw]; · iexact Hw
  iexact Hout

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## Side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = sems0 c from rfl, scopedRest0_eq, ownSems0_eq, unscopedSems0_eq]
  unfold sems0
  iintro ⟨HS, HB⟩
  isplitl [HB]; · iexact HB
  isplitl [HS]; · iexact HS
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the 2 × 2 mesh, for any float values and from any memory with zero counters, every fair execution of the kernel
    ends, with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after it -/

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

end Cert.KernelIdealProof

end
-- ==== Proof.Value.Softmax.lean ====
/-
# Softmax over the reals inside the extended reals

Every logit is a real number here, so each sum of exponentials is a positive real and the two ways of normalising a row
agree: dividing `exp (l - M)` by the sum of the `exp (l - M)` (what the reference does, `M` the row's maximum) is the same
as multiplying `exp l` by one over the sum of the `exp l` (what the kernel does). The sum over the 8192 columns of a row is
also the sum over the four quadrants, their eight chunks and the 256 columns of each.
-/
module

public import Idealize.ShloMosaic.PureOps.Ideal.Laws
public import Idealize.ShloMosaic.Lib.IdealHost
public import Mathlib.Algebra.BigOperators.Fin
public import Mathlib.Logic.Equiv.Fin.Basic

@[expose] public section

noncomputable section

namespace Cert.SoftmaxValue

open Idealize.ShloMosaic

/-- The sum of finitely many reals is the same real in the extended reals. -/
theorem coe_sum {ι : Type} [Fintype ι] (f : ι → ℝ) : ((∑ i, f i : ℝ) : EReal) = ∑ i, (f i : EReal) :=
  map_sum (⟨⟨(fun r : ℝ => (r : EReal)), EReal.coe_zero⟩, EReal.coe_add⟩ : ℝ →+ EReal) f Finset.univ

/-- The maximum of finitely many reals, started at `⊥`, is a real unless there are none of them. -/
theorem fold_max_real {ι : Type} (f : ι → ℝ) (s : Finset ι) :
    (s.fold max (⊥ : EReal) (fun i => (f i : EReal)) = ⊥ ∧ s = ∅) ∨ ∃ M : ℝ, s.fold max (⊥ : EReal) (fun i => (f i : EReal)) = M := by
  induction s using Finset.cons_induction with
  | empty => exact Or.inl ⟨Finset.fold_empty, rfl⟩
  | cons a s ha ih =>
    refine Or.inr ?_
    rw [Finset.fold_cons]
    rcases ih with ⟨h, -⟩ | ⟨M, h⟩
    · exact ⟨f a, by rw [h]; exact max_eq_left bot_le⟩
    · rw [h]
      rcases le_total (f a) M with hM | hM
      · exact ⟨M, max_eq_right (EReal.coe_le_coe_iff.2 hM)⟩
      · exact ⟨f a, max_eq_left (EReal.coe_le_coe_iff.2 hM)⟩

/-- A row of reals that is not empty has a real maximum. -/
theorem rowMax_real {ι : Type} [Fintype ι] [Nonempty ι] (f : ι → ℝ) :
    ∃ M : ℝ, Finset.univ.fold max (⊥ : EReal) (fun i => (f i : EReal)) = M := by
  rcases fold_max_real f Finset.univ with ⟨-, h⟩ | h
  · exact absurd h Finset.univ_nonempty.ne_empty
  · exact h

/-- The two normalisations of a row of real logits agree. -/
theorem softmax_eq {ι : Type} [Fintype ι] [Nonempty ι] (l : ι → ℝ) (M : ℝ) (j : ι) :
    Ideal.exp (l j : EReal) * Ideal.div 1 (∑ k, Ideal.exp (l k : EReal))
      = Ideal.div (Ideal.exp ((l j : EReal) - M)) (∑ k, Ideal.exp ((l k : EReal) - M)) := by
  have hs : ∀ g : ι → ℝ, (∑ k, Real.exp (g k)) ≠ 0 := fun g =>
    (Finset.sum_pos (fun k _ => Real.exp_pos _) Finset.univ_nonempty).ne'
  simp only [← EReal.coe_sub, Ideal.exp_coe, ← coe_sum]
  rw [Ideal.div_coe (hs l), Ideal.div_coe (hs fun k => l k - M), one_mul, ← EReal.coe_mul, ← EReal.coe_mul]
  congr 1
  simp only [Real.exp_sub, ← Finset.sum_div]
  have h1 := hs l
  have h2 := (Real.exp_pos M).ne'
  field_simp

/-- The columns of a row: chunk `k` of quadrant `q`, column `j` of the chunk. -/
def col (q : Fin 4) (k : Fin 8) (j : Fin 256) : Fin 8192 := ⟨2048 * q.val + 256 * k.val + j.val, by omega⟩

/-- A sum over the columns, quadrant by quadrant and chunk by chunk. -/
theorem sum_cols (g : Fin 8192 → EReal) : ∑ i, g i = ∑ q, ∑ k, ∑ j, g (col q k j) := by
  have e1 : ∑ i : Fin (4 * 2048), g i = ∑ q : Fin 4, ∑ i : Fin 2048, g (finProdFinEquiv (m := 4) (n := 2048) (q, i)) := by
    rw [← Equiv.sum_comp (finProdFinEquiv (m := 4) (n := 2048)) g, Fintype.sum_prod_type]
  rw [e1]
  refine Finset.sum_congr rfl fun q _ => ?_
  rw [show ∑ i : Fin 2048, g (finProdFinEquiv (m := 4) (n := 2048) (q, i)) = ∑ p : Fin 8 × Fin 256, g (finProdFinEquiv (m := 4) (n := 2048) (q, finProdFinEquiv (m := 8) (n := 256) p)) from
    (Equiv.sum_comp (finProdFinEquiv (m := 8) (n := 256)) (fun i => g (finProdFinEquiv (m := 4) (n := 2048) (q, i)))).symm, Fintype.sum_prod_type]
  refine Finset.sum_congr rfl fun k _ => Finset.sum_congr rfl fun j _ => congrArg g (Fin.ext ?_)
  simp only [finProdFinEquiv_apply_val, col]
  omega

end Cert.SoftmaxValue

end
-- ==== Proof.Value.Finite.lean ====
/-
# What the precondition says of one entry

The predicate asks that the absolute value of every entry of the two inputs be below infinity. At exact values the word of
infinity is `⊤` and the absolute value of `x` is `max x (-x)`, so each entry is a real number.
-/
module

public import proofs.«01_k».proof.Defs
public import proofs.«01_k».proof.Proof.Gen.Pre_finite_inputs_KernelIdeal
public import Idealize.ShloMosaic.Lib.ReduceAll
public import Idealize.ShloMosaic.PureOps.Ideal.Laws

@[expose] public section

noncomputable section

namespace Cert.SoftmaxValue

open Idealize.ShloMosaic

/-- The word of the positive infinity denotes `⊤`. -/
theorem ofBits_infinity : Ideal.ofBits .f32 0x7F800000#32 = ⊤ := by
  simp [Ideal.ofBits, Ideal.ieee]

/-- The word of the negative infinity denotes `⊥`. -/
theorem ofBits_neg_infinity : Ideal.ofBits .f32 0xFF800000#32 = ⊥ := by
  simp [Ideal.ofBits, Ideal.ieee]

/-- An extended real whose absolute value is below `⊤` is a real. -/
theorem real_of_abs_lt (x : EReal) (h : max x (-x) < ⊤) : ∃ r : ℝ, x = r := by
  induction x with
  | bot => exact absurd h (by simp)
  | top => exact absurd h (by simp)
  | coe r => exact ⟨r, rfl⟩

/-- The comparison `|x| < ∞` that came out 1 says that `x` is a real. -/
theorem real_of_cmp (x : Ideal .f32) (h : FloatOps.cmpf .olt (FloatOps.hostAbsf x) (Ideal.ofBits .f32 0x7F800000#32) = 1#1) :
    ∃ r : ℝ, x = (r : EReal) := by
  refine real_of_abs_lt x ?_
  rw [ofBits_infinity] at h
  by_contra hn
  have h0 : FloatOps.cmpf .olt (FloatOps.hostAbsf x) (⊤ : Ideal .f32) = BitVec.ofBool (decide (max x (-x) < (⊤ : EReal))) := rfl
  rw [h0, decide_eq_false hn] at h
  exact absurd h (by decide)

/-- Under the precondition every entry of a device's two input arrays is a real number. -/
theorem finite_entries (x : (⟨2, ![256, 512]⟩ : Shape).Idx → EReal) (w : (⟨2, ![512, 4096]⟩ : Shape).Idx → EReal)
    (h : Cert.Pre_finite_inputs_KernelIdeal.fn (F := Ideal) x w = fun _ => 1#1) :
    (∀ i, ∃ r : ℝ, x i = r) ∧ ∀ i, ∃ r : ℝ, w i = r := by
  have hs : Subsingleton Cert.Pre_finite_inputs_KernelIdeal.S_.Idx := ⟨fun a b => funext fun i => i.elim0⟩
  have h0 := congrFun h (fun i => i.elim0)
  obtain ⟨h1, h2⟩ := IntOp.andi_eq_one.1 h0
  exact ⟨fun i => real_of_cmp _ (Host.reduce_andi_all _ _ _ _ _ h1 i), fun i => real_of_cmp _ (Host.reduce_andi_all _ _ _ _ _ h2 i)⟩

end Cert.SoftmaxValue

end
-- ==== Proof.KernelIdeal.Result.lean ====
/-
# What the result array holds after the run

The pipeline has one point, whose block of the result is the whole array: what the body leaves in the staging buffer is
what the array holds.
-/
module

public import proofs.«01_k».proof.Proof.KernelIdeal.Run

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem blk_o_zero : (fun a => (win0_2.index (0 : Fin 1)) a * main_v1.ty.shape.size a) = fun _ => 0 :=
  funext fun a => by fin_cases a <;> decide
theorem blk_x_zero : (fun a => (win0_0.index (0 : Fin 1)) a * main_arg0.ty.shape.size a) = fun _ => 0 :=
  funext fun a => by fin_cases a <;> decide
theorem blk_w_zero : (fun a => (win0_1.index (0 : Fin 1)) a * main_arg1.ty.shape.size a) = fun _ => 0 :=
  funext fun a => by fin_cases a <;> decide

/-- Device `c`'s result array ends as the body left the staging buffer. -/
theorem final_o (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact View.read_write_univ _ _
  exact (Memref.read_access_unit_zero (Elt F) main_v1 blk_o_zero (fun a => by fin_cases a <;> decide) _).symm.trans h

/-- The block of `x` that a device stages is all of its `x`, -/
theorem xs_eq (c : Dev nD) : xs m ρ c = m ((c : Thread nD τ).loc main_arg0) :=
  Memref.read_access_unit_zero (Elt F) main_arg0 blk_x_zero (fun a => by fin_cases a <;> decide) _
/-- and the block of `W` all of its half of `W`. -/
theorem ws_eq (c : Dev nD) : ws m ρ c = m ((c : Thread nD τ).loc main_arg1) :=
  Memref.read_access_unit_zero (Elt F) main_arg1 blk_w_zero (fun a => by fin_cases a <;> decide) _

end Cert.KernelIdealProof

end
-- ==== Proof.Value.Kernel.lean ====
/-
# The kernel's result at exact values

`logit x w r i` is the product of row `r` of `x` with column `i` of `W`. A chunk that a device computes holds the
exponentials of the logits of its columns, whichever device it is, provided the chunk lies in the half of `W` that the
device has; so the staging buffer ends with the exponentials of all 8192 logits of each row, the two partial row sums
together are the sum over all of them, and the result is each exponential times one over that sum.
-/
module

public import proofs.«01_k».proof.Proof.KernelIdeal.Result
public import proofs.«01_k».proof.Proof.Value.Softmax
public import Idealize.ShloMosaic.Lib.Pointwise
public import Idealize.ShloMosaic.Lib.Layout

@[expose] public section

noncomputable section

namespace Cert.KernelIdealProof

open Cert.KernelIdeal Cert.KernelIdeal.Gen Cert.SoftmaxValue

open Idealize.ShloMosaic
open Idealize.ShloMosaic.TcCoe

variable (m : (ℓ : Loc nD τ sig) → Buf (Elt Ideal) ℓ) (ρ : Dev nD → PrngReg)

/-- The shape of the whole of `W`. -/
abbrev S512x8192 : Shape := ⟨2, ![512, 8192]⟩

/-- Row `r` of `x` times column `i` of `W`. -/
def logit (x : S256x512.Idx → EReal) (w : S512x8192.Idx → EReal) (r : Fin 256) (i : Fin 8192) : EReal :=
  ∑ a : Fin 512, x (ix2 r a) * w (ix2 a i)

/-! ## What is read -/

theorem xv_apply (c : Dev nD) (r : Fin 256) (a : Fin 512) :
    xv m ρ c (ix2 r a) = (m ((c : Thread nD τ).loc main_arg0) : S256x512.Idx → EReal) (ix2 r a) := by
  unfold xv
  rw [xs_eq]
  refine congrArg (m ((c : Thread nD τ).loc main_arg0) : S256x512.Idx → EReal) (funext fun b => Fin.ext ?_)
  fin_cases b
  · exact (Nat.zero_add _).trans (Nat.one_mul _)
  · exact (Nat.zero_add _).trans (Nat.one_mul _)

/-- The column of device `c`'s half of `W` where column `j` of chunk `k` of quadrant `q` lies. -/
def wcol (q : Dev nD) (k : Fin 8) (j : Fin 256) : Fin 4096 := ⟨2048 * (q.val % 2) + 256 * k.val + j.val, by omega⟩

theorem wch_apply (c q : Dev nD) (k : Fin 8) (a : Fin 512) (j : Fin 256) :
    wch m ρ c q k (ix2 a j) = (m ((c : Thread nD τ).loc main_arg1) : S512x4096.Idx → EReal) (ix2 a (wcol q k j)) := by
  unfold wch
  rw [ws_eq]
  refine congrArg (m ((c : Thread nD τ).loc main_arg1) : S512x4096.Idx → EReal) (funext fun b => Fin.ext ?_)
  fin_cases b
  · exact (Nat.zero_add _).trans (Nat.one_mul _)
  · exact congrArg (2048 * (q.val % 2) + 256 * k.val + ·) (Nat.one_mul _)

/-- The columns that a device's block of `W` holds: those of its two quadrants. -/
theorem block_apply (c q : Dev nD) (hq : q.val / 2 = c.val / 2) (w : S512x8192.Idx → EReal) (k : Fin 8) (a : Fin 512) (j : Fin 256) :
    Layout.blockN ⟨2, ![512, 4096]⟩ ⟨2, ![512, 8192]⟩ (Layout.meshBlock [2, 2] ![[], [0]] c) w (by decide) (ix2 a (wcol q k j)) = w (ix2 a (col q k j)) := by
  have h0 : Layout.meshLin [2, 2] c.val [] = 0 := rfl
  have h1 : Layout.meshLin [2, 2] c.val [0] = c.val / 2 := by clear hq; revert c; decide
  rw [Layout.blockN_apply]
  refine congrArg w (funext fun b => Fin.ext ?_)
  rw [Layout.TilesN.idx_val, Layout.meshBlock_val]
  match b with
  | ⟨0, _⟩ =>
    show Layout.meshLin [2, 2] c.val [] * 512 + a.val = a.val
    rw [h0]; omega
  | ⟨1, _⟩ =>
    show Layout.meshLin [2, 2] c.val [0] * 4096 + (2048 * (q.val % 2) + 256 * k.val + j.val) = 2048 * q.val + 256 * k.val + j.val
    rw [h1]; omega

/-! ## A chunk -/

theorem pay4_apply (v : Vec Ideal S256x512 .f32) (w : Vec Ideal S512x256 .f32) (r j : Fin 256) :
    k0_pay4 (k0_pay2 v) w (ix2 r j) = Ideal.exp (∑ a : Fin 512, v (ix2 r a) * w (ix2 a j)) := by
  pointwise [k0_pay4, k0_pay2]

section Values

variable (x : S256x512.Idx → EReal) (w : S512x8192.Idx → EReal)

/-- The memory holds `x` on every device and on each its half of `W`. -/
def Holds : Prop := ∀ c : Dev nD, m ((c : Thread nD τ).loc main_arg0) = x
  ∧ m ((c : Thread nD τ).loc main_arg1) = Layout.blockN ⟨2, ![512, 4096]⟩ ⟨2, ![512, 8192]⟩ (Layout.meshBlock [2, 2] ![[], [0]] c) w (by decide)

variable {m x w} (h : Holds m x w)
include h

/-- A chunk holds the exponentials of the logits of its columns, on every device that has these columns of `W`. -/
theorem chunk_apply (c q : Dev nD) (hq : q.val / 2 = c.val / 2) (k : Fin 8) (r j : Fin 256) :
    chunk m ρ c q k (ix2 r j) = Ideal.exp (logit x w r (col q k j)) := by
  unfold chunk logit
  rw [pay4_apply]
  refine congrArg Ideal.exp (Finset.sum_congr rfl fun a _ => ?_)
  rw [xv_apply, wch_apply, (h c).1, (h c).2, block_apply c q hq]

/-- The staging buffer ends with the exponentials of all logits. -/
theorem E_apply (c : Dev nD) (r : Fin 256) (i : Fin 8192) : E m ρ c (ix2 r i) = Ideal.exp (logit x w r i) := by
  have hi : iOf (ix2 r i) = ix2 r ⟨i.val % 256, by omega⟩ := funext fun b => Fin.ext (by fin_cases b <;> rfl)
  have hc : col (qOf (ix2 r i)) (kOf (ix2 r i)) ⟨i.val % 256, by omega⟩ = i := Fin.ext (by
    show 2048 * (i.val / 2048) + 256 * (i.val % 2048 / 256) + i.val % 256 = i.val
    omega)
  have hs : ∀ c q : Dev nD, q.val / 2 = (src c q).val / 2 := by decide
  unfold E
  rw [hi, chunk_apply ρ h _ _ (hs c _), hc]

end Values

/-! ## The row sums -/

theorem acc_apply (s : FVec Ideal S256x1 .f32) (e : FVec Ideal S256x256 .f32) (r : Fin 256) :
    acc s e (ix2 r 0) = s (ix2 r 0) + ∑ j : Fin 256, e (ix2 r j) := by
  pointwise [acc]

theorem accL_apply (s : FVec Ideal S256x1 .f32) (e : Vec Ideal S256x256 .f32) (r : Fin 256) :
    accL s e (ix2 r 0) = s (ix2 r 0) + ∑ j : Fin 256, e (ix2 r j) := by
  unfold accL
  rw [shapeCast_self, acc_apply]

/-- The sum over the eight chunks of a quadrant, added to what was there. -/
theorem accs_apply (s : FVec Ideal S256x1 .f32) (e : Fin 8 → FVec Ideal S256x256 .f32) (r : Fin 256) :
    accs s e (ix2 r 0) = s (ix2 r 0) + ∑ k : Fin 8, ∑ j : Fin 256, e k (ix2 r j) := by
  simp only [accs, acc_apply, Fin.sum_univ_eight, add_assoc]

theorem accsL_apply (s : FVec Ideal S256x1 .f32) (e : Fin 8 → FVec Ideal S256x256 .f32) (r : Fin 256) :
    accsL s e (ix2 r 0) = s (ix2 r 0) + ∑ k : Fin 8, ∑ j : Fin 256, e k (ix2 r j) := by
  simp only [accsL, accL_apply, Fin.sum_univ_eight, add_assoc]

theorem pay3_apply (r : Fin 256) : k0_pay3 (F := Ideal) (ix2 r 0) = 0 := by
  pointwise [k0_pay3]

theorem pay1_apply (s t : FVec Ideal S256x1 .f32) (e : Vec Ideal S256x8192 .f32) (r : Fin 256) (i : Fin 8192) :
    k0_pay1 s t e (ix2 r i) = e (ix2 r i) * Ideal.div 1 (s (ix2 r 0) + t (ix2 r 0)) := by
  pointwise [k0_pay1]

/-- A sum over the four devices, from any of them: itself, its two neighbours, and the last. -/
theorem sum_quadrants (c : Dev nD) (f : Dev nD → EReal) : (f c + f (yn c)) + (f (xn c) + f (dg c)) = ∑ q, f q := by
  rw [Fin.sum_univ_four f]
  fin_cases c
  · show (f 0 + f 1) + (f 2 + f 3) = _; abel
  · show (f 1 + f 0) + (f 3 + f 2) = _; abel
  · show (f 2 + f 3) + (f 0 + f 1) = _; abel
  · show (f 3 + f 2) + (f 1 + f 0) = _; abel

section Sums

variable {x : S256x512.Idx → EReal} {w : S512x8192.Idx → EReal} {m} (h : Holds m x w)
include h

/-- The two partial sums together are the sum over the whole row. -/
theorem sums_apply (c : Dev nD) (r : Fin 256) :
    sLoc m ρ c (ix2 r 0) + sNbr m ρ c (ix2 r 0) = ∑ i : Fin 8192, Ideal.exp (logit x w r i) := by
  have hy : ∀ c : Dev nD, (yn c).val / 2 = c.val / 2 := by decide
  unfold sLoc sNbr
  rw [accs_apply, accs_apply, accsL_apply, accsL_apply, pay3_apply, zero_add, zero_add]
  simp only [chunk_apply ρ h _ _ rfl, chunk_apply ρ h c (yn c) (hy c)]
  rw [sum_cols, ← sum_quadrants c]

/-- The result on every device: the exponential of the logit times one over the row's sum. -/
theorem outAt_apply (c : Dev nD) (r : Fin 256) (i : Fin 8192) :
    outAt m ρ c (ix2 r i) = Ideal.exp (logit x w r i) * Ideal.div 1 (∑ k : Fin 8192, Ideal.exp (logit x w r k)) := by
  unfold outAt
  rw [pay1_apply, E_apply ρ h, sums_apply ρ h]

end Sums

end Cert.KernelIdealProof

end
-- ==== Proof.Value.Reference.lean ====
/-
# The reference's result at exact values

Each entry is the exponential of a logit less its row's maximum, divided by the row's sum of these exponentials. With real
inputs the logits are real, and so is the maximum: the entry is then the kernel's, `exp l` times one over the sum of the
`exp l`.
-/
module

public import proofs.«01_k».proof.Proof.Gen.ReferenceIdeal.Run
public import proofs.«01_k».proof.Proof.Value.Softmax
public import proofs.«01_k».proof.Proof.Value.Finite
public import proofs.«01_k».proof.Proof.Value.Kernel

@[expose] public section

noncomputable section

namespace Cert.SoftmaxValue

open Cert.ReferenceIdeal Cert.ReferenceIdeal.Gen
open Idealize.ShloMosaic
open Cert.KernelIdealProof (logit)

/-- The logits as the reference computes them, each less its row's maximum. -/
def shifted (x : FVec Ideal S256x512 .f32) (w : FVec Ideal S512x8192 .f32) : FVec Ideal S256x8192 .f32 :=
  subf (Host.dotGeneral dot_S256x512_S512x8192_S256x8192_1_0_0_1_n_n none x w)
    (broadcastInDim S256x8192 ![0, 1] bcast_S256x1_S256x8192_0_1 (broadcastInDim S256x1 ![0] bcast_S256_S256x1_0
      (Host.reduce FloatOps.maximumf (Host.dotGeneral dot_S256x512_S512x8192_S256x8192_1_0_0_1_n_n none x w)
        (constant S_ .f32 0xFF800000#32) reducesTo_S256x8192_S256_d1 h_S_)))

/-- The reference's result. -/
def refOut (x : FVec Ideal S256x512 .f32) (w : FVec Ideal S512x8192 .f32) : FVec Ideal S256x8192 .f32 :=
  Host.divf (Host.exp (shifted x w)) (broadcastInDim S256x8192 ![0, 1] bcast_S256x1_S256x8192_0_1
    (broadcastInDim S256x1 ![0] bcast_S256_S256x1_0
      (Host.reduceAdd (Host.exp (shifted x w)) (constant S_ .f32 0x00000000#32) reducesTo_S256x8192_S256_d1 h_S_)))

theorem shifted_apply (x : FVec Ideal S256x512 .f32) (w : FVec Ideal S512x8192 .f32) (r : Fin 256) (i : Fin 8192) :
    shifted x w (ix2 r i) = logit x w r i - Finset.univ.fold max (⊥ : EReal) (logit x w r) := by
  rw [← ofBits_neg_infinity]
  pointwise [shifted, logit]

theorem refOut_apply (x : FVec Ideal S256x512 .f32) (w : FVec Ideal S512x8192 .f32) (r : Fin 256) (i : Fin 8192) :
    refOut x w (ix2 r i) = Ideal.div (Ideal.exp (shifted x w (ix2 r i))) (∑ k : Fin 8192, Ideal.exp (shifted x w (ix2 r k))) := by
  pointwise [refOut]

/-- Real inputs have real logits. -/
theorem logit_real (x : FVec Ideal S256x512 .f32) (w : FVec Ideal S512x8192 .f32)
    (hx : ∀ i, ∃ a : ℝ, (x i : EReal) = a) (hw : ∀ i, ∃ a : ℝ, (w i : EReal) = a) :
    ∃ l : Fin 256 → Fin 8192 → ℝ, ∀ r i, logit x w r i = (l r i : EReal) := by
  choose X hX using hx
  choose W hW using hw
  refine ⟨fun r i => ∑ a : Fin 512, X (ix2 r a) * W (ix2 a i), fun r i => ?_⟩
  rw [coe_sum]
  refine Finset.sum_congr rfl fun a _ => ?_
  rw [hX, hW, EReal.coe_mul]

/-- THE EQUATION: with real inputs the kernel's entries are the reference's. -/
theorem value (x : FVec Ideal S256x512 .f32) (w : FVec Ideal S512x8192 .f32)
    (hx : ∀ i, ∃ a : ℝ, (x i : EReal) = a) (hw : ∀ i, ∃ a : ℝ, (w i : EReal) = a) (r : Fin 256) (i : Fin 8192) :
    Ideal.exp (logit x w r i) * Ideal.div 1 (∑ k : Fin 8192, Ideal.exp (logit x w r k)) = refOut x w (ix2 r i) := by
  obtain ⟨l, hl⟩ := logit_real x w hx hw
  obtain ⟨M, hM⟩ := rowMax_real (l r)
  have hL : logit x w r = fun k => (l r k : EReal) := funext (hl r)
  rw [refOut_apply]
  simp only [shifted_apply, hL, hM]
  exact softmax_eq (l r) M i

end Cert.SoftmaxValue

end
-- ==== Proof.lean ====
/-
# The claims, assembled

The frames of the kernel (as printed, and at exact values) are one run, `run_main`, at any float operations; the reference's frames are its run with
no semaphore to speak of; the kernel was printed without a rewrite; the value is the equation of
`Proof/Value/Reference.lean`, used on every device with the contents its run ends with.
-/
module

public import proofs.«01_k».proof.Defs
public import proofs.«01_k».proof.Proof.SameText
public import proofs.«01_k».proof.Proof.KernelIdeal.Run
public import proofs.«01_k».proof.Proof.Gen.ReferenceIdeal.Run
public import proofs.«01_k».proof.Proof.Value.Reference
public import proofs.«01_k».proof.Proof.Gen.Pre_finite_inputs_KernelIdeal
public import proofs.«01_k».proof.Proof.Gen.Pre_finite_inputs_ReferenceIdeal
public import Idealize.ShloMosaic.Lib.Quiescent
public import Idealize.ShloMosaic.Adequacy
public import Idealize.ShloMosaic.Init

@[expose] public section

noncomputable section

namespace Cert.Proof

open Idealize.ShloMosaic Idealize.SL.Sem

/-- The kernel's run, at any float operations: it ends, its arguments are unchanged and every counter is zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run _ _ _).mono (fun _ h => ⟨fun c => ⟨(h.1 c (0 : Fin 3)).trans (Cert.KernelIdealProof.final_x m g c),
      (h.1 c (1 : Fin 3)).trans (Cert.KernelIdealProof.final_w m g c)⟩, h.2⟩)
    (Cert.KernelIdealProof.run_main m g)

theorem frame_ideal : Cert.quiescent_KernelIdeal := fun m g _ => frame_any m g

theorem frame_kernel : Cert.quiescent_Kernel := fun m g _ => by
  have h := frame_any (F := Bits) m g
  rw [← tables_eq] at h
  exact h

theorem frame_reference : Cert.quiescent_ReferenceIdeal := fun m g _ =>
  (θ_run _ _ _).mono (fun r h => ⟨fun c => ⟨(h c).2.1, (h c).2.2⟩, sem_eq_zero_of_no_sems rfl r.2⟩)
    (Cert.ReferenceIdeal.Value.run m g)

/-- Under the precondition both inputs are arrays of reals: `x` is on every device, and each column of `W` on some device. -/
theorem real_inputs (x : Cert.ReferenceIdeal.S256x512.Idx → EReal) (w : Cert.ReferenceIdeal.S512x8192.Idx → EReal)
    (m : (ℓ : Loc Cert.KernelIdeal.nD Cert.KernelIdeal.τ Cert.KernelIdeal.sig) → Buf (Elt Ideal) ℓ)
    (hp : Pre_KernelIdeal_finite_inputs_KernelIdeal m) (h : Cert.KernelIdealProof.Holds m x w) :
    (∀ i, ∃ a : ℝ, x i = a) ∧ ∀ i, ∃ a : ℝ, w i = a := by
  have hf := fun c => Cert.SoftmaxValue.finite_entries _ _ (hp c)
  refine ⟨fun i => ?_, fun i => ?_⟩
  · obtain ⟨a, ha⟩ := (hf 0).1 i
    exact ⟨a, (congrFun (h 0).1 i).symm.trans ha⟩
  · obtain ⟨b, j, rfl⟩ : ∃ (b : Fin 512) (j : Fin 8192), i = ix2 b j := ⟨i 0, i 1, eq_ix2 i⟩
    let q : Fin 4 := ⟨j.val / 2048, by omega⟩
    let k : Fin 8 := ⟨j.val % 2048 / 256, by omega⟩
    let l : Fin 256 := ⟨j.val % 256, by omega⟩
    have hj : Cert.SoftmaxValue.col q k l = j := Fin.ext (by
      show 2048 * (j.val / 2048) + 256 * (j.val % 2048 / 256) + j.val % 256 = j.val
      omega)
    obtain ⟨a, ha⟩ := (hf q).2 (ix2 b (Cert.KernelIdealProof.wcol q k l))
    refine ⟨a, Eq.trans ?_ ha⟩
    rw [← hj, ← Cert.KernelIdealProof.block_apply q q rfl w k b l]
    exact (congrFun (h q).2 _).symm

/-- The kernel's result on every device is the reference's. -/
theorem value_eq : Cert.algebraic_KernelIdeal_ReferenceIdeal_pre_finite_inputs_KernelIdeal := fun m g m' g' hp h => by
  obtain ⟨hx, hw⟩ := real_inputs _ _ m hp h
  refine ⟨Cert.SoftmaxValue.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r hr c => ⟨?_, ?_, ?_⟩) (Cert.KernelIdealProof.run_main m g),
    (θ_run _ _ _).mono (fun r hr => hr 0) (Cert.ReferenceIdeal.Value.run m' g')⟩
  · refine ((hr.1 c (2 : Fin 3)).trans (Cert.KernelIdealProof.final_o m g c)).trans (funext fun i => ?_)
    obtain ⟨a, j, rfl⟩ : ∃ (a : Fin 256) (j : Fin 8192), i = ix2 a j := ⟨i 0, i 1, eq_ix2 i⟩
    exact (Cert.KernelIdealProof.outAt_apply g h c a j).trans (Cert.SoftmaxValue.value _ _ hx hw a j)
  · exact (hr.1 c (0 : Fin 3)).trans (Cert.KernelIdealProof.final_x m g c)
  · exact (hr.1 c (1 : Fin 3)).trans (Cert.KernelIdealProof.final_w m g c)

theorem claim : Cert.Claim :=
  ⟨Cert.Kernel.Gen.facts, Cert.KernelIdeal.Gen.facts, Cert.ReferenceIdeal.Gen.facts,
    Cert.Pre_finite_inputs_KernelIdeal.Gen.facts, Cert.Pre_finite_inputs_ReferenceIdeal.Gen.facts,
    frame_kernel, frame_ideal, fun m g _ => frame_ideal m g trivial, frame_reference, fun m g _ => frame_reference m g trivial, trivial, value_eq⟩

end Cert.Proof

end
